-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x3x512x512 : Shape := ⟨4, ![64, 3, 512, 512]⟩
abbrev S96x3x16x16 : Shape := ⟨4, ![96, 3, 16, 16]⟩
abbrev S96 : Shape := ⟨1, ![96]⟩
abbrev S1x96x1x1 : Shape := ⟨4, ![1, 96, 1, 1]⟩
abbrev S1 : Shape := ⟨1, ![1]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel
  bcast_S_S96x3x16x16 : S_.BroadcastsInDim S96x3x16x16 (![] : Fin 0 → Fin S96x3x16x16.rank)
  reducesTo_S96x3x16x16_S_d0_1_2_3 : S96x3x16x16.ReducesTo [0, 1, 2, 3] S_
  bcast_S_S1x96x1x1 : S_.BroadcastsInDim S1x96x1x1 (![] : Fin 0 → Fin S1x96x1x1.rank)
  reducesTo_S1x96x1x1_S_d0_1_2_3 : S1x96x1x1.ReducesTo [0, 1, 2, 3] S_

variable [Facts]

def fn {F : FTy → Type} [FloatOps F] (main_arg0 : FVec F S64x3x512x512 .f32) (main_arg1 : FVec F S96x3x16x16 .f32) (main_arg2 : FVec F S96 .f32) (main_arg3 : FVec F S1x96x1x1 .f32) (main_arg4 : FVec F S1 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S96x3x16x16 .f32 := Host.absf main_arg1
  let main_cst_0 : FVec F S_ .f32 := constant S_ .f32 0x7F800000#32
  let main_v5 : FVec F S96x3x16x16 .f32 := broadcastInDim S96x3x16x16 ![] bcast_S_S96x3x16x16 main_cst_0
  let main_v6 : IVec S96x3x16x16 1 := cmpf .olt main_v4 main_v5
  let main_c_1 : IVec S_ 1 := constantI S_ 1 1#1
  let main_v7 : IVec S_ 1 := (fun x v => Host.reduce IntOp.andi x v reducesTo_S96x3x16x16_S_d0_1_2_3 h_S_) main_v6 main_c_1
  let main_v8 : IVec S_ 1 := andi main_v3 main_v7
  let main_v9 : FVec F S1x96x1x1 .f32 := Host.absf main_arg3
  let main_cst_2 : FVec F S_ .f32 := constant S_ .f32 0x7F800000#32
  let main_v10 : FVec F S1x96x1x1 .f32 := broadcastInDim S1x96x1x1 ![] bcast_S_S1x96x1x1 main_cst_2
  let main_v11 : IVec S1x96x1x1 1 := cmpf .olt main_v9 main_v10
  let main_c_3 : IVec S_ 1 := constantI S_ 1 1#1
  let main_v12 : IVec S_ 1 := (fun x v => Host.reduce IntOp.andi x v reducesTo_S1x96x1x1_S_d0_1_2_3 h_S_) main_v11 main_c_3
  let main_v13 : IVec S_ 1 := andi main_v8 main_v12
  main_v13
-- ==== Kernel.lean ====
abbrev S64x3x512x512 : Shape := ⟨4, ![64, 3, 512, 512]⟩
abbrev S96x3x16x16 : Shape := ⟨4, ![96, 3, 16, 16]⟩
abbrev S96 : Shape := ⟨1, ![96]⟩
abbrev S1x96x1x1 : Shape := ⟨4, ![1, 96, 1, 1]⟩
abbrev S1 : Shape := ⟨1, ![1]⟩
abbrev S64x3x32x16x32x16 : Shape := ⟨6, ![64, 3, 32, 16, 32, 16]⟩
abbrev S64x32x32x3x16x16 : Shape := ⟨6, ![64, 32, 32, 3, 16, 16]⟩
abbrev S64x1024x768 : Shape := ⟨3, ![64, 1024, 768]⟩
abbrev S96x768 : Shape := ⟨2, ![96, 768]⟩
abbrev S768x96 : Shape := ⟨2, ![768, 96]⟩
abbrev S_ : Shape := ⟨0, ![]⟩
abbrev S768x128 : Shape := ⟨2, ![768, 128]⟩
abbrev S128 : Shape := ⟨1, ![128]⟩
abbrev S1x128 : Shape := ⟨2, ![1, 128]⟩
abbrev S1x96 : Shape := ⟨2, ![1, 96]⟩
abbrev S1x1 : Shape := ⟨2, ![1, 1]⟩
abbrev S64x1x1024 : Shape := ⟨3, ![64, 1, 1024]⟩
abbrev S1x1024x768 : Shape := ⟨3, ![1, 1024, 768]⟩
abbrev S1x1x1024 : Shape := ⟨3, ![1, 1, 1024]⟩
abbrev S1024x768 : Shape := ⟨2, ![1024, 768]⟩
abbrev S1024x128 : Shape := ⟨2, ![1024, 128]⟩
abbrev S1024x64 : Shape := ⟨2, ![1024, 64]⟩
abbrev S1024x32 : Shape := ⟨2, ![1024, 32]⟩
abbrev S1024x16 : Shape := ⟨2, ![1024, 16]⟩
abbrev S1024x8 : Shape := ⟨2, ![1024, 8]⟩
abbrev S1024x4 : Shape := ⟨2, ![1024, 4]⟩
abbrev S1024x2 : Shape := ⟨2, ![1024, 2]⟩
abbrev S1024x1 : Shape := ⟨2, ![1024, 1]⟩
abbrev S1024x1024 : Shape := ⟨2, ![1024, 1024]⟩
abbrev S1x1024 : Shape := ⟨2, ![1, 1024]⟩
abbrev S64x1x640 : Shape := ⟨3, ![64, 1, 640]⟩
abbrev S1x1x640 : Shape := ⟨3, ![1, 1, 640]⟩
abbrev S1024 : Shape := ⟨1, ![1024]⟩
abbrev S1024x640 : Shape := ⟨2, ![1024, 640]⟩
abbrev S640 : Shape := ⟨1, ![640]⟩
abbrev S1x640 : Shape := ⟨2, ![1, 640]⟩
abbrev S64x1x513 : Shape := ⟨3, ![64, 1, 513]⟩
abbrev S64x513 : Shape := ⟨2, ![64, 513]⟩

abbrev nBuf : Space → Nat
  | .hbm => 30
  | .vmem => 12
  | .smem => 0
  | _ => 0

abbrev bufTy : (tb : Table) → Fin (tcTables nBuf tb) → BufTy
  | .hbm, ⟨0, _⟩ => ⟨S64x3x512x512, .f32⟩
  | .hbm, ⟨1, _⟩ => ⟨S96x3x16x16, .f32⟩
  | .hbm, ⟨2, _⟩ => ⟨S96, .f32⟩
  | .hbm, ⟨3, _⟩ => ⟨S1x96x1x1, .f32⟩
  | .hbm, ⟨4, _⟩ => ⟨S1, .f32⟩
  | .hbm, ⟨5, _⟩ => ⟨S64x3x512x512, .bf16⟩
  | .hbm, ⟨6, _⟩ => ⟨S64x3x32x16x32x16, .bf16⟩
  | .hbm, ⟨7, _⟩ => ⟨S64x32x32x3x16x16, .bf16⟩
  | .hbm, ⟨8, _⟩ => ⟨S64x1024x768, .bf16⟩
  | .hbm, ⟨9, _⟩ => ⟨S96x3x16x16, .bf16⟩
  | .hbm, ⟨10, _⟩ => ⟨S96x768, .bf16⟩
  | .hbm, ⟨11, _⟩ => ⟨S768x96, .bf16⟩
  | .hbm, ⟨12, _⟩ => ⟨S_, .i32⟩
  | .hbm, ⟨13, _⟩ => ⟨S_, .bf16⟩
  | .hbm, ⟨14, _⟩ => ⟨S768x128, .bf16⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S1x96, .f32⟩
  | .hbm, ⟨20, _⟩ => ⟨S1x96, .bf16⟩
  | .hbm, ⟨21, _⟩ => ⟨S1x96, .f32⟩
  | .hbm, ⟨22, _⟩ => ⟨S_, .i32⟩
  | .hbm, ⟨23, _⟩ => ⟨S_, .f32⟩
  | .hbm, ⟨24, _⟩ => ⟨S1x128, .f32⟩
  | .hbm, ⟨25, _⟩ => ⟨S1x1, .f32⟩
  | .hbm, ⟨26, _⟩ => ⟨S64x1x1024, .f32⟩
  | .hbm, ⟨27, _⟩ => ⟨S64x1x640, .i32⟩
  | .hbm, ⟨28, _⟩ => ⟨S64x1x513, .i32⟩
  | .hbm, ⟨29, _⟩ => ⟨S64x513, .i32⟩
  | .local _ .vmem, ⟨0, _⟩ => ⟨S1x1024x768, .bf16⟩
  | .local _ .vmem, ⟨1, _⟩ => ⟨S1x1024x768, .bf16⟩
  | .local _ .vmem, ⟨2, _⟩ => ⟨S768x128, .bf16⟩
  | .local _ .vmem, ⟨3, _⟩ => ⟨S1x128, .f32⟩
  | .local _ .vmem, ⟨4, _⟩ => ⟨S1x128, .f32⟩
  | .local _ .vmem, ⟨5, _⟩ => ⟨S1x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x640, .i32⟩
  | .local _ .vmem, ⟨11, _⟩ => ⟨S1x1x640, .i32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_call2_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x640 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S64x3x512x512 : Shape := ⟨4, ![64, 3, 512, 512]⟩
abbrev S96x3x16x16 : Shape := ⟨4, ![96, 3, 16, 16]⟩
abbrev S96 : Shape := ⟨1, ![96]⟩
abbrev S1x96x1x1 : Shape := ⟨4, ![1, 96, 1, 1]⟩
abbrev S1 : Shape := ⟨1, ![1]⟩
abbrev S64x3x32x16x32x16 : Shape := ⟨6, ![64, 3, 32, 16, 32, 16]⟩
abbrev S64x32x32x96 : Shape := ⟨4, ![64, 32, 32, 96]⟩
abbrev S1x1x1x96 : Shape := ⟨4, ![1, 1, 1, 96]⟩
abbrev S64x32x32 : Shape := ⟨3, ![64, 32, 32]⟩
abbrev S1x1x1 : Shape := ⟨3, ![1, 1, 1]⟩
abbrev S64x1024 : Shape := ⟨2, ![64, 1024]⟩
abbrev S_ : Shape := ⟨0, ![]⟩
abbrev S64 : Shape := ⟨1, ![64]⟩
abbrev S64x1 : Shape := ⟨2, ![64, 1]⟩
abbrev S64x512 : Shape := ⟨2, ![64, 512]⟩
abbrev S64x513 : Shape := ⟨2, ![64, 513]⟩

abbrev nBuf : Space → Nat
  | .hbm => 38
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S96x3x16x16, .f32⟩
  | .hbm, ⟨2, _⟩ => ⟨S96, .f32⟩
  | .hbm, ⟨3, _⟩ => ⟨S1x96x1x1, .f32⟩
  | .hbm, ⟨4, _⟩ => ⟨S1, .f32⟩
  | .hbm, ⟨5, _⟩ => ⟨S64x3x32x16x32x16, .f32⟩
  | .hbm, ⟨6, _⟩ => ⟨S64x32x32x96, .f32⟩
  | .hbm, ⟨7, _⟩ => ⟨S1x1x1x96, .f32⟩
  | .hbm, ⟨8, _⟩ => ⟨S64x32x32x96, .f32⟩
  | .hbm, ⟨9, _⟩ => ⟨S64x32x32x96, .f32⟩
  | .hbm, ⟨10, _⟩ => ⟨S96, .f32⟩
  | .hbm, ⟨11, _⟩ => ⟨S64x32x32, .f32⟩
  | .hbm, ⟨12, _⟩ => ⟨S1x1x1, .f32⟩
  | .hbm, ⟨13, _⟩ => ⟨S64x32x32, .f32⟩
  | .hbm, ⟨14, _⟩ => ⟨S64x32x32, .f32⟩
  | .hbm, ⟨15, _⟩ => ⟨S64x1024, .f32⟩
  | .hbm, ⟨16, _⟩ => ⟨S_, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64x1, .f32⟩
  | .hbm, ⟨22, _⟩ => ⟨S64x1024, .f32⟩
  | .hbm, ⟨23, _⟩ => ⟨S64x1024, .f32⟩
  | .hbm, ⟨24, _⟩ => ⟨S64x1024, .f32⟩
  | .hbm, ⟨25, _⟩ => ⟨S_, .f32⟩
  | .hbm, ⟨26, _⟩ => ⟨S64, .f32⟩
  | .hbm, ⟨27, _⟩ => ⟨S64x1, .f32⟩
  | .hbm, ⟨28, _⟩ => ⟨S64x1024, .f32⟩
  | .hbm, ⟨29, _⟩ => ⟨S64x1024, .f32⟩
  | .hbm, ⟨30, _⟩ => ⟨S64x512, .f32⟩
  | .hbm, ⟨31, _⟩ => ⟨S64x512, .i32⟩
  | .hbm, ⟨32, _⟩ => ⟨S_, .i32⟩
  | .hbm, ⟨33, _⟩ => ⟨S64x512, .i32⟩
  | .hbm, ⟨34, _⟩ => ⟨S64x512, .i32⟩
  | .hbm, ⟨35, _⟩ => ⟨S_, .i32⟩
  | .hbm, ⟨36, _⟩ => ⟨S64x1, .i32⟩
  | .hbm, ⟨37, _⟩ => ⟨S64x513, .i32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_values : Ref sig .tc := ⟨.hbm, 30, rfl⟩
abbrev main_indices : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.Run.lean ====
/- The run of the idealized program, read at its result: the launch over the program's segments, whose last thread
   state holds every buffer at the last boundary's contents. -/
module

public import proofs.«01_k».proof.Proof.Gen.KernelIdeal.Frame

@[expose] public section

set_option maxRecDepth 16384

noncomputable section

namespace Cert.KernelIdeal.Rank

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion, which takes unfolding plain
-- definitions in a metavariable's type
set_option backward.isDefEq.respectTransparency.types false in
/-- Every execution of the program ends with the arguments as launched and the result at the last boundary's contents. -/
theorem run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v18) = W10 m ρ c (Proc.devRef .tc main_v18)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ c =>
      ⟨(h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       h c _ (mem_uc main_v18 (by decide))⟩)

end Cert.KernelIdeal.Rank

end
-- ==== Proof.Lanes.lean ====
/- Sums of extended reals carried in two parts: a running sum and a running correction. One step adds two lanes and
   adds to the correction the remainder `a + b` leaves in exact arithmetic, which is zero for reals and `⊥` once an
   operand is infinite. -/
module

public import Idealize.ShloMosaic.PureOps.Ideal.Laws
public import Mathlib.Tactic.Ring
public import Mathlib.Tactic.Linarith

@[expose] public section

noncomputable section

namespace Cert.Lanes

open Idealize.ShloMosaic

/-- An extended real is a real number. -/
def Re (x : EReal) : Prop := ∃ r : ℝ, x = (r : EReal)

/-- A real number is real. -/
theorem re_coe (r : ℝ) : Re (r : EReal) := ⟨r, rfl⟩
/-- `⊤` is not real. -/
theorem not_re_top : ¬ Re (⊤ : EReal) := fun ⟨_, h⟩ => EReal.coe_ne_top _ h.symm
/-- `⊥` is not real. -/
theorem not_re_bot : ¬ Re (⊥ : EReal) := fun ⟨_, h⟩ => EReal.coe_ne_bot _ h.symm
/-- Zero is real. -/
theorem re_zero : Re (0 : EReal) := ⟨0, rfl⟩
/-- A sum of reals is real. -/
theorem Re.add {a b : EReal} (ha : Re a) (hb : Re b) : Re (a + b) := by
  obtain ⟨x, rfl⟩ := ha; obtain ⟨y, rfl⟩ := hb; exact ⟨x + y, by norm_cast⟩
/-- A product of reals is real. -/
theorem Re.mul {a b : EReal} (ha : Re a) (hb : Re b) : Re (a * b) := by
  obtain ⟨x, rfl⟩ := ha; obtain ⟨y, rfl⟩ := hb; exact ⟨x * y, by norm_cast⟩
/-- A finite sum of reals is real. -/
theorem re_sum {ι : Type} (s : Finset ι) (f : ι → EReal) (h : ∀ i ∈ s, Re (f i)) : Re (∑ i ∈ s, f i) := by
  classical
  induction s using Finset.induction_on with
  | empty => exact re_zero
  | insert a s ha ih =>
    rw [Finset.sum_insert ha]
    exact (h a (Finset.mem_insert_self _ _)).add (ih fun i hi => h i (Finset.mem_insert_of_mem hi))
/-- A sum is real only if both its terms are. -/
theorem re_add_iff {a b : EReal} : Re (a + b) ↔ Re a ∧ Re b := by
  constructor
  · intro h
    induction a using EReal.rec with
    | bot => rw [EReal.bot_add] at h; exact absurd h not_re_bot
    | top =>
      induction b using EReal.rec with
      | bot => rw [EReal.add_bot] at h; exact absurd h not_re_bot
      | top => exact absurd h not_re_top
      | coe y => rw [EReal.top_add_coe] at h; exact absurd h not_re_top
    | coe x =>
      induction b using EReal.rec with
      | bot => rw [EReal.add_bot] at h; exact absurd h not_re_bot
      | top => rw [EReal.coe_add_top] at h; exact absurd h not_re_top
      | coe y => exact ⟨re_coe x, re_coe y⟩
  · exact fun h => h.1.add h.2

/-- What an addition of two numbers loses, as the two-part sum computes it. -/
def loss (a b : EReal) : EReal := (a - ((a + b) - ((a + b) - a))) + (b - ((a + b) - a))

/-- The addition of two reals loses nothing. -/
theorem loss_re {a b : EReal} (ha : Re a) (hb : Re b) : loss a b = 0 := by
  obtain ⟨x, rfl⟩ := ha; obtain ⟨y, rfl⟩ := hb
  unfold loss
  have : (x - ((x + y) - ((x + y) - x))) + (y - ((x + y) - x)) = (0 : ℝ) := by ring
  exact_mod_cast congrArg (fun r : ℝ => (r : EReal)) this

/-- With an infinite operand the loss is `⊥`. -/
theorem loss_not_re {a b : EReal} (h : ¬ (Re a ∧ Re b)) : loss a b = ⊥ := by
  unfold loss
  induction a using EReal.rec with
  | bot => simp [sub_eq_add_neg]
  | top =>
    induction b using EReal.rec with
    | bot => simp [sub_eq_add_neg]
    | top => simp [sub_eq_add_neg]
    | coe y => simp [sub_eq_add_neg]
  | coe x =>
    induction b using EReal.rec with
    | bot => simp [sub_eq_add_neg]
    | top => simp [sub_eq_add_neg]
    | coe y => exact absurd ⟨re_coe x, re_coe y⟩ h

/-- A lane of the two-part sum: the correction is zero while the running sum is real, and `⊥` once it is not. -/
def Lane (s c : EReal) : Prop := (Re s ∧ c = 0) ∨ (¬ Re s ∧ c = ⊥)

/-- Two untouched lanes, their corrections zero, add to a lane. -/
theorem lane_start (a b : EReal) : Lane (a + b) (0 + 0 + loss a b) := by
  by_cases h : Re a ∧ Re b
  · exact Or.inl ⟨h.1.add h.2, by rw [loss_re h.1 h.2]; simp⟩
  · exact Or.inr ⟨fun hh => h (re_add_iff.1 hh), by rw [loss_not_re h]; simp⟩

/-- Two lanes add to a lane. -/
theorem lane_add {a b c d : EReal} (h₁ : Lane a c) (h₂ : Lane b d) : Lane (a + b) (c + d + loss a b) := by
  by_cases h : Re a ∧ Re b
  · refine Or.inl ⟨h.1.add h.2, ?_⟩
    rcases h₁ with ⟨_, rfl⟩ | ⟨n, _⟩
    · rcases h₂ with ⟨_, rfl⟩ | ⟨n, _⟩
      · rw [loss_re h.1 h.2]; simp
      · exact absurd h.2 n
    · exact absurd h.1 n
  · exact Or.inr ⟨fun hh => h (re_add_iff.1 hh), by rw [loss_not_re h]; simp⟩

open Classical in
/-- The two parts of a lane and one more term: the sum itself while the lane is real, `⊥` once it is not. -/
theorem lane_total {s c : EReal} (h : Lane s c) (b : EReal) : s + c + b = if Re s then s + b else ⊥ := by
  rcases h with ⟨h, rfl⟩ | ⟨h, rfl⟩
  · rw [if_pos h, add_zero]
  · rw [if_neg h]; simp

/-- A family of extended reals that is either real throughout, or one and the same infinity. -/
def Unif {ι : Type} (f : ι → EReal) : Prop := (∀ n, Re (f n)) ∨ ∃ v, ¬ Re v ∧ ∀ n, f n = v

/-- One value for all is uniform. -/
theorem unif_const {ι : Type} (v : EReal) : Unif fun _ : ι => v := by
  by_cases h : Re v
  · exact Or.inl fun _ => h
  · exact Or.inr ⟨v, h, fun _ => rfl⟩

/-- Adding a real to an infinity leaves it. -/
theorem add_eq_of_not_re {v a : EReal} (hv : ¬ Re v) (ha : Re a) : v + a = v := by
  obtain ⟨x, rfl⟩ := ha
  induction v using EReal.rec with
  | bot => simp
  | top => simp
  | coe y => exact absurd (re_coe y) hv

/-- Uniform families add to a uniform family. -/
theorem Unif.add {ι : Type} {f g : ι → EReal} (hf : Unif f) (hg : Unif g) : Unif fun n => f n + g n := by
  rcases hf with hf | ⟨v, hv, hf⟩ <;> rcases hg with hg | ⟨w, hw, hg⟩
  · exact Or.inl fun n => (hf n).add (hg n)
  · exact Or.inr ⟨w, hw, fun n => by show f n + g n = w; rw [hg n, add_comm, add_eq_of_not_re hw (hf n)]⟩
  · exact Or.inr ⟨v, hv, fun n => by show f n + g n = v; rw [hf n, add_eq_of_not_re hv (hg n)]⟩
  · exact Or.inr ⟨v + w, fun h => hv (re_add_iff.1 h).1, fun n => by show f n + g n = v + w; rw [hf n, hg n]⟩

/-- A real multiple of a uniform family is uniform. -/
theorem Unif.mul {ι : Type} {f : ι → EReal} (hf : Unif f) {w : EReal} (hw : Re w) : Unif fun n => f n * w := by
  rcases hf with hf | ⟨v, hv, hf⟩
  · exact Or.inl fun n => (hf n).mul hw
  · have : (fun n => f n * w) = fun _ => v * w := by funext n; rw [hf n]
    rw [this]; exact unif_const _

/-- A finite sum of uniform families is uniform. -/
theorem unif_sum {ι κ : Type} (s : Finset κ) (f : κ → ι → EReal) (h : ∀ k ∈ s, Unif (f k)) : Unif fun n => ∑ k ∈ s, f k n := by
  classical
  induction s using Finset.induction_on with
  | empty => exact Or.inl fun _ => re_zero
  | insert a s ha ih =>
    simp only [Finset.sum_insert ha]
    exact (h a (Finset.mem_insert_self _ _)).add (ih fun k hk => h k (Finset.mem_insert_of_mem hk))

end Cert.Lanes

end
-- ==== Proof.Score.lean ====
/- The first kernel's value at an index: the score of a pixel is the two-part sum of 128 lanes, each a product of a
   contraction with a weight. -/
module

public import proofs.«01_k».proof.Proof.Gen.KernelIdeal.Skeleton
public import proofs.«01_k».proof.Proof.Lanes
public import Idealize.ShloMosaic.Lib.Pointwise

@[expose] public section

set_option maxRecDepth 16384

noncomputable section

namespace Cert.KernelIdeal.Rank

open Cert.KernelIdeal Cert.KernelIdeal.Gen Cert.Lanes
open Idealize.ShloMosaic Idealize.SL.Sem

/-- Every row of the pair (sums, corrections) consists of lanes, and the sums of row `n` add up to `T n`. -/
def Good (w : Nat) (S C : FVec Ideal ⟨2, ![1024, w]⟩ .f32) (T : Fin 1024 → EReal) : Prop :=
  ∀ n : Fin 1024, (∀ l : Fin w, Lane (S (ix2 n l)) (C (ix2 n l))) ∧ ∑ l : Fin w, S (ix2 n l) = T n

/-- The left part of a matrix, read at an index. -/
theorem left_apply {w w2 : Nat} (S : FVec Ideal ⟨2, ![1024, w2]⟩ .f32)
    (h : (⟨2, ![1024, w2]⟩ : Shape).Slices ![0, 0] ⟨2, ![1024, w]⟩) (n : Fin 1024) (l : Fin w) (l' : Fin w2) (hl : l'.val = l.val) :
    extractStridedSlice ⟨2, ![1024, w]⟩ ![0, 0] S h (ix2 n l) = S (ix2 n l') :=
  extractStridedSlice_apply _ _ _ _ _ (fun ax => by
    match ax with
    | ⟨0, _⟩ => exact (Nat.zero_add _).symm
    | ⟨1, _⟩ => exact hl.trans (Nat.zero_add _).symm)

/-- The right part of a matrix, from column `w`, read at an index. -/
theorem right_apply {w w2 : Nat} (S : FVec Ideal ⟨2, ![1024, w2]⟩ .f32)
    (h : (⟨2, ![1024, w2]⟩ : Shape).Slices ![0, w] ⟨2, ![1024, w]⟩) (n : Fin 1024) (l : Fin w) (l' : Fin w2) (hl : l'.val = w + l.val) :
    extractStridedSlice ⟨2, ![1024, w]⟩ ![0, w] S h (ix2 n l) = S (ix2 n l') :=
  extractStridedSlice_apply _ _ _ _ _ (fun ax => by
    match ax with
    | ⟨0, _⟩ => exact (Nat.zero_add _).symm
    | ⟨1, _⟩ => exact hl)

/-- The new sums of one halving step. -/
def stepS {w : Nat} (A B : FVec Ideal ⟨2, ![1024, w]⟩ .f32) : FVec Ideal ⟨2, ![1024, w]⟩ .f32 := addf A B

/-- The new corrections of one halving step, from the halves of the sums and of the corrections. -/
def stepC {w : Nat} (A B C D : FVec Ideal ⟨2, ![1024, w]⟩ .f32) : FVec Ideal ⟨2, ![1024, w]⟩ .f32 :=
  addf (addf C D) (addf (subf A (subf (addf A B) (subf (addf A B) A))) (subf B (subf (addf A B) A)))

/-- One halving step takes lanes to lanes and keeps the rows' totals. -/
theorem good_step {w w2 : Nat} (hw : w2 = w + w) {S C : FVec Ideal ⟨2, ![1024, w2]⟩ .f32} {T : Fin 1024 → EReal}
    (h0 : (⟨2, ![1024, w2]⟩ : Shape).Slices ![0, 0] ⟨2, ![1024, w]⟩) (h1 : (⟨2, ![1024, w2]⟩ : Shape).Slices ![0, w] ⟨2, ![1024, w]⟩)
    (G : Good w2 S C T) :
    Good w (stepS (extractStridedSlice ⟨2, ![1024, w]⟩ ![0, 0] S h0) (extractStridedSlice ⟨2, ![1024, w]⟩ ![0, w] S h1))
      (stepC (extractStridedSlice ⟨2, ![1024, w]⟩ ![0, 0] S h0) (extractStridedSlice ⟨2, ![1024, w]⟩ ![0, w] S h1)
        (extractStridedSlice ⟨2, ![1024, w]⟩ ![0, 0] C h0) (extractStridedSlice ⟨2, ![1024, w]⟩ ![0, w] C h1)) T := by
  subst hw
  intro n
  obtain ⟨gl, gt'⟩ := G n
  have hl : ∀ l : Fin w, (Fin.castAdd w l).val = l.val := fun l => rfl
  have hr : ∀ l : Fin w, (Fin.natAdd w l).val = w + l.val := fun l => rfl
  constructor
  · intro l
    have h := lane_add (gl (Fin.castAdd w l)) (gl (Fin.natAdd w l))
    rw [← left_apply S h0 n l _ (hl l), ← left_apply C h0 n l _ (hl l), ← right_apply S h1 n l _ (hr l),
      ← right_apply C h1 n l _ (hr l)] at h
    exact h
  · rw [← gt', Fin.sum_univ_add, ← Finset.sum_add_distrib]
    refine Finset.sum_congr rfl fun l _ => ?_
    rw [← left_apply S h0 n l _ (hl l), ← right_apply S h1 n l _ (hr l)]
    rfl

/-- The first halving step, from untouched sums and zero corrections. -/
theorem good_start {w w2 : Nat} (hw : w2 = w + w) {S C : FVec Ideal ⟨2, ![1024, w2]⟩ .f32} (hC : ∀ i, C i = 0)
    (h0 : (⟨2, ![1024, w2]⟩ : Shape).Slices ![0, 0] ⟨2, ![1024, w]⟩) (h1 : (⟨2, ![1024, w2]⟩ : Shape).Slices ![0, w] ⟨2, ![1024, w]⟩) :
    Good w (stepS (extractStridedSlice ⟨2, ![1024, w]⟩ ![0, 0] S h0) (extractStridedSlice ⟨2, ![1024, w]⟩ ![0, w] S h1))
      (stepC (extractStridedSlice ⟨2, ![1024, w]⟩ ![0, 0] S h0) (extractStridedSlice ⟨2, ![1024, w]⟩ ![0, w] S h1)
        (extractStridedSlice ⟨2, ![1024, w]⟩ ![0, 0] C h0) (extractStridedSlice ⟨2, ![1024, w]⟩ ![0, w] C h1))
      (fun n => ∑ l : Fin w2, S (ix2 n l)) := by
  subst hw
  intro n
  have hl : ∀ l : Fin w, (Fin.castAdd w l).val = l.val := fun l => rfl
  have hr : ∀ l : Fin w, (Fin.natAdd w l).val = w + l.val := fun l => rfl
  constructor
  · intro l
    have h := lane_start (S (ix2 n (Fin.castAdd w l))) (S (ix2 n (Fin.natAdd w l)))
    have h' : Lane (S (ix2 n (Fin.castAdd w l)) + S (ix2 n (Fin.natAdd w l)))
        (C (ix2 n (Fin.castAdd w l)) + C (ix2 n (Fin.natAdd w l)) + loss (S (ix2 n (Fin.castAdd w l))) (S (ix2 n (Fin.natAdd w l)))) := by
      rw [hC, hC]; exact h
    rw [← left_apply S h0 n l _ (hl l), ← left_apply C h0 n l _ (hl l), ← right_apply S h1 n l _ (hr l),
      ← right_apply C h1 n l _ (hr l)] at h'
    exact h'
  · show _ = ∑ l : Fin (w + w), S (ix2 n l)
    rw [Fin.sum_univ_add, ← Finset.sum_add_distrib]
    refine Finset.sum_congr rfl fun l _ => ?_
    rw [← left_apply S h0 n l _ (hl l), ← right_apply S h1 n l _ (hr l)]
    rfl

variable (v0 : Vec Ideal S1x1024x768 .bf16) (v2 : Vec Ideal S768x128 .bf16) (v5 v11 : Vec Ideal S1x128 .f32) (v101 : Vec Ideal S1x1 .f32)

/-- The 128 products of pixel `n`, added up. -/
def total (n : Fin 1024) : EReal := ∑ l : Fin 128, k0_pay2 v0 v2 v5 v11 (ix2 n l)

/-- After two halvings the sums and the corrections are lanes with the rows' totals. -/
theorem good_32 : Good 32 (k0_pay8 v0 v2 v5 v11) (k0_pay9 v0 v2 v5 v11) (total v0 v2 v5 v11) :=
  good_step (w := 32) (w2 := 64) rfl slices_S1024x64_o0_0_S1024x32 slices_S1024x64_o0_32_S1024x32
    (good_start (w := 64) (w2 := 128) rfl
      (C := broadcast S1024x128 (Scalar.ofBits .f32 0x00000000#32 : Ideal .f32)) (fun i => Ideal.ofBits_zero_f32)
      slices_S1024x128_o0_0_S1024x64 slices_S1024x128_o0_64_S1024x64)

open Classical in
/-- The kernel's score of pixel `n` before it is laid along a row: the total and the last bias, or `⊥` where the total is infinite. -/
theorem pay17_apply (n : Fin 1024) :
    k0_pay17 (k0_pay11 v0 v2 v5 v11) (k0_pay12 v0 v2 v5 v11) (k0_pay13 v0 v2 v5 v11) (k0_pay14 v0 v2 v5 v11)
      (k0_pay15 v0 v2 v5 v11) (k0_pay16 v0 v2 v5 v11) v101 (ix2 n 0)
      = if Re (total v0 v2 v5 v11 n) then total v0 v2 v5 v11 n + v101 (ix2 0 0) else ⊥ := by
  have G := good_step (w := 1) (w2 := 2) rfl slices_S1024x2_o0_0_S1024x1 slices_S1024x2_o0_1_S1024x1
    (good_step (w := 2) (w2 := 4) rfl slices_S1024x4_o0_0_S1024x2 slices_S1024x4_o0_2_S1024x2
      (good_step (w := 4) (w2 := 8) rfl slices_S1024x8_o0_0_S1024x4 slices_S1024x8_o0_4_S1024x4
        (good_step (w := 8) (w2 := 16) rfl slices_S1024x16_o0_0_S1024x8 slices_S1024x16_o0_8_S1024x8
          (good_step (w := 16) (w2 := 32) rfl slices_S1024x32_o0_0_S1024x16 slices_S1024x32_o0_16_S1024x16
            (good_32 v0 v2 v5 v11)))))
  obtain ⟨gl, gt'⟩ := G n
  have h := lane_total (gl 0) (v101 (ix2 0 0))
  rw [Fin.sum_univ_one] at gt'
  rw [gt'] at h
  rw [← h, ← gt']
  have hb : broadcastTo S1024x1 (shapeCast S1x1 v101 shapeCasts_S1x1_S1x1) broadcasts_S1x1_S1024x1 (ix2 n 0) = v101 (ix2 0 0) := by
    pointwise
  rw [← hb]
  rfl

end Cert.KernelIdeal.Rank

end
-- ==== Proof.Order.lean ====
module

public import proofs.«01_k».proof.Proof.Lanes
public import Idealize.ShloMosaic.Lib.PlanTiles.StableSort

@[expose] public section

namespace Cert.Order

open Idealize.ShloMosaic

variable {n : ℕ}

/-- `i` comes before `j`: the greater score first, and of equal scores the lower position first. -/
def Before (f : Fin n → EReal) (i j : Fin n) : Prop := f j < f i ∨ (f i = f j ∧ i < j)

open Classical in
/-- The positions that come before `i`. -/
noncomputable def ahead (f : Fin n → EReal) (i : Fin n) : Finset (Fin n) := Finset.univ.filter fun j => Before f j i

/-- How many positions come before `i`. -/
noncomputable def rank (f : Fin n → EReal) (i : Fin n) : ℕ := (ahead f i).card

/-- Membership in the positions that come before `i`. -/
theorem mem_ahead (f : Fin n → EReal) (i j : Fin n) : j ∈ ahead f i ↔ Before f j i := by
  simp [ahead]

/-- No position comes before itself. -/
theorem not_before_self (f : Fin n → EReal) (i : Fin n) : ¬Before f i i := by
  rintro (h | ⟨_, h⟩) <;> exact lt_irrefl _ h

/-- Coming before is transitive. -/
theorem Before.trans {f : Fin n → EReal} {i j k : Fin n} (h : Before f i j) (h' : Before f j k) : Before f i k := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

/-- Of two positions one comes before the other. -/
theorem before_total (f : Fin n → EReal) {i j : Fin n} (h : i ≠ j) : Before f i j ∨ Before f j i := by
  rcases lt_trichotomy (f i) (f j) with h1 | h1 | h1
  · exact Or.inr (Or.inl h1)
  · rcases lt_or_gt_of_ne h with h2 | h2
    · exact Or.inl (Or.inr ⟨h1, h2⟩)
    · exact Or.inr (Or.inr ⟨h1.symm, h2⟩)
  · exact Or.inl (Or.inl h1)

/-- The rank grows from a position to one that comes after it. -/
theorem rank_lt {f : Fin n → EReal} {i j : Fin n} (h : Before f i j) : rank f i < rank f j := by
  refine Finset.card_lt_card ((Finset.ssubset_iff_of_subset fun k hk => ?_).mpr ⟨i, ?_, ?_⟩)
  · exact (mem_ahead f j k).mpr (((mem_ahead f i k).mp hk).trans h)
  · exact (mem_ahead f j i).mpr h
  · exact fun hi => not_before_self f i ((mem_ahead f i i).mp hi)

/-- Different positions have different ranks. -/
theorem rank_injective (f : Fin n → EReal) : Function.Injective (rank f) := by
  intro i j h
  by_contra hne
  rcases before_total f hne with h' | h'
  · exact absurd h (rank_lt h').ne
  · exact absurd h (rank_lt h').ne'

/-- A rank is below the number of positions. -/
theorem rank_lt_card (f : Fin n → EReal) (i : Fin n) : rank f i < n := by
  have h : (ahead f i).card < (Finset.univ : Finset (Fin n)).card :=
    Finset.card_lt_card ((Finset.ssubset_iff_of_subset (Finset.subset_univ _)).mpr
      ⟨i, Finset.mem_univ i, fun hi => not_before_self f i ((mem_ahead f i i).mp hi)⟩)
  simpa [rank] using h

/-- Scores that compare alike give the same ranks. -/
theorem rank_congr {f g : Fin n → EReal} (h : ∀ i j, f i < f j ↔ g i < g j) (i : Fin n) : rank f i = rank g i := by
  have hb : ∀ j, Before f j i ↔ Before g j i := by
    intro j
    have he : f j = f i ↔ g j = g i := by
      constructor <;> intro e
      · exact le_antisymm (not_lt.mp fun hl => absurd ((h _ _).mpr hl) (by simp [e])) (not_lt.mp fun hl => absurd ((h _ _).mpr hl) (by simp [e]))
      · exact le_antisymm (not_lt.mp fun hl => absurd ((h _ _).mp hl) (by simp [e])) (not_lt.mp fun hl => absurd ((h _ _).mp hl) (by simp [e]))
    unfold Before
    rw [h, he]
  unfold rank
  congr 1
  ext j
  rw [mem_ahead, mem_ahead]
  exact hb j

/-- How many scores lie below the score at `i`: a whole number that compares as the score does. -/
noncomputable def height (g : Fin n → EReal) (i : Fin n) : ℕ := by
  classical exact (Finset.univ.filter fun j => g j < g i).card

/-- Heights compare as the scores do. -/
theorem height_lt (g : Fin n → EReal) (a b : Fin n) : height g a < height g b ↔ g a < g b := by
  have mono : ∀ {x y : Fin n}, g x ≤ g y → height g x ≤ height g y := fun {x y} h => by
    refine Finset.card_le_card fun k hk => ?_
    simp only [Finset.mem_filter, Finset.mem_univ, true_and] at hk ⊢
    exact hk.trans_le h
  constructor
  · intro h
    by_contra hc
    exact absurd (mono (not_lt.mp hc)) (not_le.mpr h)
  · intro h
    refine Finset.card_lt_card ((Finset.ssubset_iff_of_subset fun k hk => ?_).mpr ⟨a, ?_, ?_⟩)
    · simp only [Finset.mem_filter, Finset.mem_univ, true_and] at hk ⊢
      exact hk.trans h
    · simp only [Finset.mem_filter, Finset.mem_univ, true_and]
      exact h
    · simp

/-- The stable sort by descending score puts, of two places, an earlier-coming position at the lower place. -/
theorem sortedFrom_before (g : Fin n → EReal) {p q : Fin n} (hpq : p < q) :
    Before g (sortedFrom (fun k k' => decide (g k' < g k)) p) (sortedFrom (fun k k' => decide (g k' < g k)) q) := by
  have e : (fun k k' : Fin n => decide (g k' < g k)) = fun k k' => decide (height g k' < height g k) := by
    funext k k'
    simp only [height_lt]
  have hs := PlanTiles.pairwise_stableSort_lex (height g) (· < ·) (List.finRange n) (List.pairwise_lt_finRange n)
  rw [← e] at hs
  have h := List.pairwise_iff_get.mp hs (p.cast (length_sortPositions n _).symm) (q.cast (length_sortPositions n _).symm) hpq
  change PlanTiles.Lex _ _ (sortedFrom (fun k k' => decide (g k' < g k)) p) (sortedFrom (fun k k' => decide (g k' < g k)) q) at h
  rcases h with h | ⟨h, h'⟩
  · exact Or.inl ((height_lt g _ _).mp h)
  · refine Or.inr ⟨?_, h'⟩
    refine le_antisymm (not_lt.mp fun hl => ?_) (not_lt.mp fun hl => ?_)
    · exact absurd ((height_lt g _ _).mpr hl) (by omega)
    · exact absurd ((height_lt g _ _).mpr hl) (by omega)

/-- The position the stable sort by descending score puts at place `p` has rank `p`. -/
theorem rank_sortedFrom (g : Fin n → EReal) (p : Fin n) :
    rank g (sortedFrom (fun k k' => decide (g k' < g k)) p) = p.val := by
  have e : ahead g (sortedFrom (fun k k' => decide (g k' < g k)) p)
      = (Finset.univ.filter fun q : Fin n => q < p).image (sortedFrom fun k k' => decide (g k' < g k)) := by
    ext j
    rw [mem_ahead]
    simp only [Finset.mem_image, Finset.mem_filter, Finset.mem_univ, true_and]
    constructor
    · intro h
      obtain ⟨q, rfl⟩ := sortedFrom_surjective (fun k k' => decide (g k' < g k)) j
      refine ⟨q, ?_, rfl⟩
      rcases lt_trichotomy q p with h' | h' | h'
      · exact h'
      · subst h'
        exact absurd h (not_before_self g _)
      · exact absurd (h.trans (sortedFrom_before g h')) (not_before_self g _)
    · rintro ⟨q, hq, rfl⟩
      exact sortedFrom_before g hq
  unfold rank
  rw [e, Finset.card_image_of_injective _ (sortedFrom_injective _)]
  have e' : (Finset.univ.filter fun q : Fin n => q < p) = Finset.Iio p := by
    ext q
    simp
  rw [e', Fin.card_Iio]

end Cert.Order
end
-- ==== Proof.Rank.lean ====
module

public import proofs.«01_k».proof.Proof.Score
public import proofs.«01_k».proof.Proof.Order

@[expose] public section

set_option maxRecDepth 16384

noncomputable section

namespace Cert.KernelIdeal.Rank

open Cert.KernelIdeal Cert.KernelIdeal.Gen Cert.Lanes Cert.Order
open Idealize.ShloMosaic Idealize.SL.Sem

/-- A comparison's bit read as a number: 1 where it holds, 0 elsewhere. -/
theorem bit_val (p : Prop) [Decidable p] :
    (FloatOps.sitofp (F := Ideal) FTy.f32 (BitVec.setWidth 32 (BitVec.ofBool (decide p))) : EReal) = if p then 1 else 0 := by
  by_cases h : p
  · rw [if_pos h, decide_eq_true h]
    show (((1#32 : BitVec 32).toInt : ℝ) : EReal) = 1
    simp
  · rw [if_neg h, decide_eq_false h]
    show (((0#32 : BitVec 32).toInt : ℝ) : EReal) = 0
    simp

/-- A small whole number read off its word. -/
theorem nat_val (k : ℕ) (h : k < 2 ^ 31) :
    (FloatOps.sitofp (F := Ideal) FTy.f32 (BitVec.ofNat 32 k) : EReal) = ((k : ℝ) : EReal) := by
  show (((BitVec.ofNat 32 k).toInt : ℝ) : EReal) = _
  have e : (BitVec.ofNat 32 k).toInt = (k : ℤ) := by
    rw [BitVec.toInt_ofNat', Int.bmod_def]
    split_ifs <;> omega
  rw [e]
  simp

/-- Equality of two positions held as words. -/
theorem cmpi_eq_pos (x y : Fin 1024) :
    IntOp.cmpi CmpIPredicate.eq (BitVec.ofNat 32 x.val) (BitVec.ofNat 32 y.val) = BitVec.ofBool (decide (x = y)) := by
  have h : (BitVec.ofNat 32 x.val == BitVec.ofNat 32 y.val) = decide (x = y) := by
    by_cases e : x = y
    · subst e; simp
    · have : BitVec.ofNat 32 x.val ≠ BitVec.ofNat 32 y.val := by
        intro h'
        apply e
        have := congrArg BitVec.toNat h'
        simp only [BitVec.toNat_ofNat] at this
        have hx := x.isLt
        have hy := y.isLt
        exact Fin.ext (by omega)
      simp [e, this]
  show BitVec.ofBool _ = _
  rw [← h]

/-- The signed order of two positions held as words is their order. -/
theorem cmpi_slt_pos (x y : Fin 1024) :
    IntOp.cmpi CmpIPredicate.slt (BitVec.ofNat 32 x.val) (BitVec.ofNat 32 y.val) = BitVec.ofBool (decide (x < y)) := by
  have h : BitVec.slt (BitVec.ofNat 32 x.val) (BitVec.ofNat 32 y.val) = decide (x < y) := by
    have hx := x.isLt
    have hy := y.isLt
    rw [BitVec.slt_eq_decide]
    congr 1
    rw [Fin.lt_def, BitVec.toInt_ofNat', BitVec.toInt_ofNat']
    simp only [Int.bmod_def]
    apply propext
    constructor <;> intro h <;> split_ifs at * <;> omega
  show BitVec.ofBool _ = _
  rw [← h]

/-- A sum against a row of the identity picks the entry. -/
theorem eye_sum (F : Fin 1024 → EReal) (x : Fin 1024) :
    ∑ k : Fin 1024, (FloatOps.sitofp (F := Ideal) FTy.f32 (BitVec.setWidth 32 (IntOp.cmpi CmpIPredicate.eq (BitVec.ofNat 32 x.val) (BitVec.ofNat 32 k.val))) : EReal) * F k = F x := by
  simp only [cmpi_eq_pos, bit_val, ite_mul, one_mul, zero_mul]
  simp

/-- A sum against a row of the identity matrix, the matrix on the right, picks one term. -/
theorem eye_sum' (F : Fin 1024 → EReal) (j : Fin 1024) :
    ∑ x : Fin 1024, F x * (FloatOps.sitofp (F := Ideal) FTy.f32 (BitVec.setWidth 32 (IntOp.cmpi CmpIPredicate.eq (BitVec.ofNat 32 x.val) (BitVec.ofNat 32 j.val))) : EReal) = F j := by
  simp only [cmpi_eq_pos, bit_val, mul_ite, mul_one, mul_zero]
  simp

/-- The bias-and-weight product of one pixel row and one lane, read. -/
theorem pay2_apply (v0 : Vec Ideal S1x1024x768 .bf16) (v2 : Vec Ideal S768x128 .bf16) (v5 v11 : Vec Ideal S1x128 .f32) (n : Fin 1024) (l : Fin 128) :
    k0_pay2 v0 v2 v5 v11 (ix2 n l) = (∑ k : Fin 768, v0 (ix3 0 n k) * v2 (ix2 k l) + v5 (ix2 0 l)) * v11 (ix2 0 l) := by
  unfold k0_pay2
  pointwise

/-- The column of scores comes out as a row. -/
theorem pay1_apply (v : FVec Ideal S1024x1 .f32) (j : Fin 1024) :
    k0_pay1 v (iota .tc S1024x1024 32 [0] iota_S1024x1024_d0_w32) (ix3 0 0 j) = v (ix2 j 0) := by
  unfold k0_pay1
  pointwise
  exact eye_sum' (fun x => v (ix2 x 0)) j

/-- The exponential of a row's entry less the row's maximum. -/
def soft (v : Vec Ideal S1x1x1024 .f32) (j : Fin 1024) : EReal :=
  Ideal.exp (v (ix3 0 0 j) - Finset.fold max (Ideal.ofBits FTy.f32 4286578688#32) (fun x => v (ix3 0 0 x)) Finset.univ)

/-- The sum of the "comes before" bits is the rank. -/
theorem count_sum (F : Fin 1024 → EReal) (x : Fin 1024) :
    ∑ y : Fin 1024, (FloatOps.sitofp (F := Ideal) FTy.f32 (BitVec.setWidth 32 (IntOp.ori (BitVec.ofBool (decide (F x < F y)))
      (IntOp.andi (BitVec.ofBool (decide (F y = F x))) (IntOp.cmpi CmpIPredicate.slt (BitVec.ofNat 32 y.val) (BitVec.ofNat 32 x.val))))) : EReal)
      = ((rank F x : ℝ) : EReal) := by
  classical
  have h : ∀ y : Fin 1024, IntOp.ori (BitVec.ofBool (decide (F x < F y)))
      (IntOp.andi (BitVec.ofBool (decide (F y = F x))) (IntOp.cmpi CmpIPredicate.slt (BitVec.ofNat 32 y.val) (BitVec.ofNat 32 x.val)))
        = BitVec.ofBool (decide (y ∈ ahead F x)) := by
    intro y
    rw [cmpi_slt_pos]
    have : decide (y ∈ ahead F x) = (decide (F x < F y) || (decide (F y = F x) && decide (y < x))) := by
      rw [← Bool.decide_and, ← Bool.decide_or]
      exact decide_eq_decide.mpr (mem_ahead F x y)
    rw [this]
    cases decide (F x < F y) <;> cases decide (F y = F x) <;> cases decide (y < x) <;> rfl
  simp only [h, bit_val]
  rw [Finset.sum_ite_mem, Finset.univ_inter, Finset.sum_const, rank]
  simp [nsmul_eq_mul]

/-- The second launch's row at place `p`: the one-based position whose rank is one below `p`, nothing where there is none. -/
theorem k1_apply (v : Vec Ideal S1x1x1024 .f32) (p : Fin 640) :
    k1_pay1 v (ix3 0 0 p) = Ideal.fptosi 32 (∑ x : Fin 1024, if ((rank (soft v) x : ℝ) : EReal) = ((p.val : ℝ) : EReal) - 1 then ((x.val : ℝ) : EReal) + 1 else 0) := by
  have key := fun x => eye_sum (soft v) x
  have key2 := fun x => count_sum (soft v) x
  unfold soft at key key2
  have hp : (FloatOps.sitofp (F := Ideal) FTy.f32 (BitVec.ofNat 32 p.val) : EReal) = ((p.val : ℝ) : EReal) :=
    nat_val _ (by have := p.isLt; omega)
  have hx : ∀ x : Fin 1024, (FloatOps.sitofp (F := Ideal) FTy.f32 (BitVec.ofNat 32 x.val) : EReal) = ((x.val : ℝ) : EReal) :=
    fun x => nat_val _ (by have := x.isLt; omega)
  unfold k1_pay1
  pointwise
  simp only [key, key2, hp, hx]
  rfl

/-- The test `rank = place - 1` on numbers is `rank + 1 = place` on naturals. -/
theorem rank_eq_iff (a p : ℕ) : ((a : ℝ) : EReal) = ((p : ℝ) : EReal) - 1 ↔ a + 1 = p := by
  rw [← EReal.coe_one, ← EReal.coe_sub, EReal.coe_eq_coe_iff]
  constructor
  · intro h
    have : ((a + 1 : ℕ) : ℝ) = (p : ℝ) := by push_cast; linarith
    exact_mod_cast this
  · intro h
    subst h
    push_cast
    ring

/-- A small whole number converted to a word is that number's word. -/
theorem fptosi_nat (k : ℕ) (h : k < 2 ^ 31) : Ideal.fptosi 32 ((k : ℝ) : EReal) = BitVec.ofNat 32 k := by
  simp only [Ideal.fptosi]
  rw [Ideal.toIntClamped_coe, if_pos (by positivity), Int.floor_natCast]
  have e : max (-((2 ^ (32 - 1) : ℕ) : ℤ)) (min (((2 ^ (32 - 1) : ℕ) : ℤ) - 1) (k : ℤ)) = (k : ℤ) := by omega
  rw [e, BitVec.ofInt_natCast]

/-- The first place holds zero. -/
theorem k1_zero (v : Vec Ideal S1x1x1024 .f32) (p : Fin 640) (hp : p.val = 0) : k1_pay1 v (ix3 0 0 p) = 0#32 := by
  rw [k1_apply, Finset.sum_eq_zero]
  · have := fptosi_nat 0 (by norm_num)
    simpa using this
  · intro x _
    rw [if_neg]
    rw [rank_eq_iff]
    omega

/-- A later place holds the one-based position of the rank one below it. -/
theorem k1_place (v : Vec Ideal S1x1x1024 .f32) (p : Fin 640) (i : Fin 1024) (hi : rank (soft v) i + 1 = p.val) :
    k1_pay1 v (ix3 0 0 p) = BitVec.ofNat 32 (i.val + 1) := by
  rw [k1_apply, Finset.sum_eq_single i]
  · rw [if_pos ((rank_eq_iff _ _).mpr hi), ← EReal.coe_one, ← EReal.coe_add]
    have e : ((i.val : ℝ) + 1) = ((i.val + 1 : ℕ) : ℝ) := by push_cast; ring
    rw [e]
    exact fptosi_nat _ (by have := i.isLt; omega)
  · intro x _ hne
    rw [if_neg]
    rw [rank_eq_iff]
    intro h
    exact hne (rank_injective (soft v) (by omega))
  · intro h
    exact absurd (Finset.mem_univ i) h

end Cert.KernelIdeal.Rank
end
-- ==== Proof.Regions.lean ====
module

public import proofs.«01_k».proof.Proof.Rank
public import proofs.«01_k».proof.Proof.Gen.KernelIdeal.Frame
public import Idealize.ShloMosaic.Lib.Pipeline.ValueKit

@[expose] public section

set_option maxRecDepth 16384

noncomputable section

namespace Cert.KernelIdeal.Rank

open Cert.KernelIdeal Cert.KernelIdeal.Gen Cert.Lanes Cert.Order
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The sum over the lanes of pixel `n` of batch `t`. -/
def laneTotal (X : Vec Ideal S64x1024x768 .bf16) (A : Vec Ideal S768x128 .bf16) (b w : Vec Ideal S1x128 .f32) (t : Fin 64) (n : Fin 1024) : EReal :=
  ∑ l : Fin 128, (∑ k : Fin 768, X (ix3 t n k) * A (ix2 k l) + b (ix2 0 l)) * w (ix2 0 l)

open Classical in
/-- The kernel's score of pixel `n` of batch `t`. -/
def kscore (X : Vec Ideal S64x1024x768 .bf16) (A : Vec Ideal S768x128 .bf16) (b w : Vec Ideal S1x128 .f32) (β : Vec Ideal S1x1 .f32) (t : Fin 64) (n : Fin 1024) : EReal :=
  if Re (laneTotal X A b w t n) then laneTotal X A b w t n + β (ix2 0 0) else ⊥

/-- The whole array of scores. -/
def kscores (X : Vec Ideal S64x1024x768 .bf16) (A : Vec Ideal S768x128 .bf16) (b w : Vec Ideal S1x128 .f32) (β : Vec Ideal S1x1 .f32) : Vec Ideal S64x1x1024 .f32 :=
  fun i => kscore X A b w β (i 0) (i 2)

/-- The first launch reads the patches one image at a time. -/
theorem idx0 : ∀ t : Fin cfg0.N, win0_0.index t = ![(grid0.coords t 0).val, 0, 0] := (by decide +kernel : ∀ t : Fin grid0.N, _)
/-- The first launch reads the filters whole. -/
theorem idx1 : ∀ t : Fin cfg0.N, win0_1.index t = ![0, 0] := (by decide +kernel : ∀ t : Fin grid0.N, _)
/-- The first launch reads the first bias whole. -/
theorem idx2 : ∀ t : Fin cfg0.N, win0_2.index t = ![0, 0] := (by decide +kernel : ∀ t : Fin grid0.N, _)
/-- The first launch reads the lane weights whole. -/
theorem idx3 : ∀ t : Fin cfg0.N, win0_3.index t = ![0, 0] := (by decide +kernel : ∀ t : Fin grid0.N, _)
/-- The first launch reads the second bias whole. -/
theorem idx4 : ∀ t : Fin cfg0.N, win0_4.index t = ![0, 0] := (by decide +kernel : ∀ t : Fin grid0.N, _)
/-- The first launch writes one row of scores per image. -/
theorem idx5 : ∀ t : Fin cfg0.N, win0_5.index t = ![(grid0.coords t 0).val, 0, 0] := (by decide +kernel : ∀ t : Fin grid0.N, _)

/-- An index of a one-row block is its last coordinate. -/
theorem row_idx {n : ℕ} (y : (⟨3, ![1, 1, n]⟩ : Shape).Idx) : ∃ j : Fin n, y = ix3 0 0 j := by
  refine ⟨y 2, funext fun a => ?_⟩
  match a with
  | ⟨0, _⟩ => exact Subsingleton.elim (α := Fin 1) _ _
  | ⟨1, _⟩ => exact Subsingleton.elim (α := Fin 1) _ _
  | ⟨2, _⟩ => rfl

/-- The block of patches of image `t`. -/
theorem blk0_0 (c : Dev nD) (t : Fin cfg0.N) (j : Fin 1024) (k : Fin 768) :
    iblk0 V c 0 t (ix3 0 j k) = V c main_v3 (ix3 (grid0.coords t 0) j k) := by
  blk_simp [iblk0]
  congr 1
  blk_ext [idx0]

/-- The block of filters. -/
theorem blk0_1 (c : Dev nD) (t : Fin cfg0.N) (k : Fin 768) (l : Fin 128) :
    iblk0 V c 1 t (ix2 k l) = V c main_v7 (ix2 k l) := by
  blk_simp [iblk0]
  congr 1
  blk_ext [idx1]

/-- The block of the first bias. -/
theorem blk0_2 (c : Dev nD) (t : Fin cfg0.N) (l : Fin 128) :
    iblk0 V c 2 t (ix2 0 l) = V c main_v9 (ix2 0 l) := by
  blk_simp [iblk0]
  congr 1
  blk_ext [idx2]

/-- The block of lane weights. -/
theorem blk0_3 (c : Dev nD) (t : Fin cfg0.N) (l : Fin 128) :
    iblk0 V c 3 t (ix2 0 l) = V c main_v13 (ix2 0 l) := by
  blk_simp [iblk0]
  congr 1
  blk_ext [idx3]

/-- The block of the second bias. -/
theorem blk0_4 (c : Dev nD) (t : Fin cfg0.N) :
    iblk0 V c 4 t (ix2 0 0) = V c main_v14 (ix2 0 0) := by
  blk_simp [iblk0]
  congr 1
  blk_ext [idx4]

/-- The first launch leaves the scores. -/
theorem scores_arr (c : Dev nD) : (dat0 V c).arrAt 5 cfg0.N
    = kscores (V c main_v3) (V c main_v7) (V c main_v9) (V c main_v13) (V c main_v14) := by
  refine (dat0 V c).arrAt_eq_of_covers 5 _ (by decide +kernel) fun t hf y => ?_
  blk_simp
  rw [after0_5]
  unfold out0_5
  frame_out
  obtain ⟨j, rfl⟩ := row_idx y
  rw [pay1_apply, pay17_apply]
  have hT : total (iblk0 V c 0 t) (iblk0 V c 1 t) (iblk0 V c 2 t) (iblk0 V c 3 t) j
      = laneTotal (V c main_v3) (V c main_v7) (V c main_v9) (V c main_v13) (grid0.coords t 0) j := by
    unfold total laneTotal
    refine Finset.sum_congr rfl fun l _ => ?_
    rw [pay2_apply]
    simp only [blk0_0, blk0_1, blk0_2, blk0_3]
  have hy : ((win0_5.blk t).view.emb (ix3 0 0 j) : S64x1x1024.Idx) = ix3 (grid0.coords t 0) 0 j := by
    blk_ext [idx5]
  rw [hT, hy, blk0_4]
  rfl

/-- The array of placed positions, from the scores. -/
def places (s : Vec Ideal S64x1x1024 .f32) : Vec Ideal S64x1x640 .i32 :=
  fun i => k1_pay1 (fun y : S1x1x1024.Idx => s (ix3 (i 0) 0 (y 2))) (ix3 0 0 (i 2))

/-- The second launch reads one row of scores per image. -/
theorem idx1_0 : ∀ t : Fin cfg1.N, win1_0.index t = ![(grid1.coords t 0).val, 0, 0] := (by decide +kernel : ∀ t : Fin grid1.N, _)
/-- The second launch writes one row of places per image. -/
theorem idx1_1 : ∀ t : Fin cfg1.N, win1_1.index t = ![(grid1.coords t 0).val, 0, 0] := (by decide +kernel : ∀ t : Fin grid1.N, _)

/-- The second launch leaves the placed positions. -/
theorem places_arr (c : Dev nD) : (dat1 V c).arrAt 1 cfg1.N = places (V c main_v15) := by
  refine (dat1 V c).arrAt_eq_of_covers 1 _ (by decide +kernel) fun t hf y => ?_
  blk_simp
  rw [after1_1]
  unfold out1_1
  frame_out
  obtain ⟨j, rfl⟩ := row_idx y
  have hy : ((win1_1.blk t).view.emb (ix3 0 0 j) : S64x1x640.Idx) = ix3 (grid1.coords t 0) 0 j := by
    blk_ext [idx1_1]
  rw [hy]
  have hb : (iblk1 V c 0 t : Vec Ideal S1x1x1024 .f32) = fun y : S1x1x1024.Idx => V c main_v15 (ix3 (grid1.coords t 0) 0 (y 2)) := by
    funext y
    obtain ⟨x, rfl⟩ := row_idx y
    blk_simp [iblk1]
    congr 1
    blk_ext [idx1_0]
  rw [hb]
  rfl

end Cert.KernelIdeal.Rank
end
-- ==== Proof.HostK.lean ====
module

public import proofs.«01_k».proof.Proof.Regions
public import Idealize.ShloMosaic.Lib.StableHlo.ReadAt

@[expose] public section

set_option maxRecDepth 16384

noncomputable section

namespace Cert.KernelIdeal.Rank

open Cert.KernelIdeal Cert.KernelIdeal.Gen Cert.Lanes Cert.Order
open Idealize.ShloMosaic Idealize.ShloMosaic.TcCoe Idealize.SL.Sem

section Forms

variable (x0 : Vec Ideal S64x3x512x512 .f32) (x1 : Vec Ideal S96x3x16x16 .f32) (x2 : Vec Ideal S96 .f32) (x3 : Vec Ideal S1x96x1x1 .f32) (x4 : Vec Ideal S1 .f32)

/-- Entry `k` of the patch at pixel `n` of image `b`. -/
def patch (b : Fin 64) (n : Fin 1024) (k : Fin 768) : EReal :=
  x0 (ix4 b ⟨k.val / 256, by have := k.isLt; omega⟩ ⟨n.val / 32 * 16 + k.val / 16 % 16, by have := n.isLt; omega⟩
    ⟨n.val % 32 * 16 + k.val % 16, by omega⟩)

/-- Entry `k` of the filter of lane `l`. -/
def filt (l : Fin 96) (k : Fin 768) : EReal :=
  x1 (ix4 l ⟨k.val / 256, by have := k.isLt; omega⟩ ⟨k.val / 16 % 16, by omega⟩ ⟨k.val % 16, by omega⟩)

/-- The weighted lane `l` at pixel `n` of image `b`. -/
def lane (b : Fin 64) (n : Fin 1024) (l : Fin 96) : EReal :=
  (∑ k : Fin 768, patch x0 b n k * filt x1 l k + x2 (ix1 l)) * x3 (ix4 0 l 0 0)

/-- The sum over the lanes at pixel `n` of image `b`. -/
def lanes (b : Fin 64) (n : Fin 1024) : EReal := ∑ l : Fin 96, lane x0 x1 x2 x3 b n l

open Classical in
/-- The kernel's score at pixel `n` of image `b`. -/
def kerScore (b : Fin 64) (n : Fin 1024) : EReal :=
  if Re (lanes x0 x1 x2 x3 b n) then lanes x0 x1 x2 x3 b n + x4 (ix1 0) else ⊥

/-- The row of the kernel's scores of image `b`. -/
def kerRow (b : Fin 64) : Vec Ideal S1x1x1024 .f32 := fun y => kerScore x0 x1 x2 x3 x4 b (y 2)

end Forms

variable (m : (ℓ : Loc nD τ sig) → Buf (Elt Ideal) ℓ) (ρ : Dev nD → PrngReg) (c : Dev nD)

/-- The result is the first 513 places of each row the second launch leaves. -/
theorem read_v18 (b : Fin 64) (p : Fin 513) :
    W10 m ρ c (Proc.devRef .tc main_v18) (ix2 b p) = W9 m ρ c (Proc.devRef .tc main_v16) (ix3 b 0 (p.castLE (by norm_num))) := by
  unfold W10
  generalize W9 m ρ c = W
  after_reads_at
  rfl

/-- The patches, cut out of the images. -/
theorem read_v3 (b : Fin 64) (n : Fin 1024) (k : Fin 768) :
    W1 m ρ c (Proc.devRef .tc main_v3) (ix3 b n k) = patch (m ((c : Thread nD τ).loc main_arg0)) b n k := by
  unfold W1
  after_reads_at
  rfl

/-- The filters, transposed. -/
theorem read_v6 (k : Fin 768) (l : Fin 96) :
    W1 m ρ c (Proc.devRef .tc main_v6) (ix2 k l) = filt (m ((c : Thread nD τ).loc main_arg1)) l k := by
  unfold W1
  after_reads_at
  rfl

/-- The first padding word is zero. -/
theorem read_c (i : S_.Idx) : W1 m ρ c (Proc.devRef .tc main_c) i = 0#32 := by
  unfold W1
  after_reads_at

/-- The second padding word is zero. -/
theorem read_c0 (i : S_.Idx) : W3 m ρ c (Proc.devRef .tc main_c_0) i = 0#32 := by
  unfold W3
  generalize W2 m ρ c = W
  after_reads_at

/-- The third padding word is zero. -/
theorem read_c1 (i : S_.Idx) : W5 m ρ c (Proc.devRef .tc main_c_1) i = 0#32 := by
  unfold W5
  generalize W4 m ρ c = W
  after_reads_at

/-- The zero word converts to the number zero. -/
theorem zero_word (φ : FTy) : (FloatOps.sitofp (F := Ideal) φ (0#32 : BitVec 32) : EReal) = 0 := by
  show (((0#32 : BitVec 32).toInt : ℝ) : EReal) = 0
  simp

/-- The filters, padded with zeros to 128 lanes. -/
theorem read_v7 (k : Fin 768) (l : Fin 128) :
    W2 m ρ c (Proc.devRef .tc main_v7) (ix2 k l)
      = if h : l.val < 96 then filt (m ((c : Thread nD τ).loc main_arg1)) ⟨l.val, h⟩ k else (0 : EReal) := by
  have h6 := read_v6 m ρ c k
  have hc := read_c m ρ c
  unfold W2
  generalize W1 m ρ c = W at h6 hc ⊢
  after_reads_at
  simp only [h6, hc, zero_word]

/-- The first bias, padded with zeros to 128 lanes. -/
theorem read_v8 (l : Fin 128) :
    W4 m ρ c (Proc.devRef .tc main_v8) (ix1 l)
      = if h : l.val < 96 then (m ((c : Thread nD τ).loc main_arg2) (ix1 (⟨l.val, h⟩ : Fin 96)) : EReal) else (0 : EReal) := by
  have hc := read_c0 m ρ c
  have ha := W3_args m ρ c main_arg2 (by decide)
  unfold W4
  generalize W3 m ρ c = W at hc ha ⊢
  after_reads_at
  simp only [ha, hc, zero_word]

/-- The padded first bias as one row. -/
theorem read_v9 (l : Fin 128) :
    W5 m ρ c (Proc.devRef .tc main_v9) (ix2 0 l)
      = if h : l.val < 96 then (m ((c : Thread nD τ).loc main_arg2) (ix1 (⟨l.val, h⟩ : Fin 96)) : EReal) else (0 : EReal) := by
  rw [← read_v8 m ρ c l]
  unfold W5
  generalize W4 m ρ c = W
  after_reads_at

/-- The lane weights as one row. -/
theorem read_v12 (l : Fin 96) :
    W5 m ρ c (Proc.devRef .tc main_v12) (ix2 0 l) = (m ((c : Thread nD τ).loc main_arg3) (ix4 0 l 0 0) : EReal) := by
  have ha := W4_args m ρ c main_arg3 (by decide)
  unfold W5
  generalize W4 m ρ c = W at ha ⊢
  after_reads_at
  rw [ha]

/-- The lane weights, padded with zeros to 128 lanes. -/
theorem read_v13 (l : Fin 128) :
    W6 m ρ c (Proc.devRef .tc main_v13) (ix2 0 l)
      = if h : l.val < 96 then (m ((c : Thread nD τ).loc main_arg3) (ix4 0 (⟨l.val, h⟩ : Fin 96) 0 0) : EReal) else (0 : EReal) := by
  have h12 := read_v12 m ρ c
  have hc := read_c1 m ρ c
  unfold W6
  generalize W5 m ρ c = W at h12 hc ⊢
  after_reads_at
  simp only [h12, hc, zero_word]

/-- The second bias as an array of one entry. -/
theorem read_v14 :
    W7 m ρ c (Proc.devRef .tc main_v14) (ix2 0 0) = (m ((c : Thread nD τ).loc main_arg4) (ix1 0) : EReal) := by
  have ha := W6_args m ρ c main_arg4 (by decide)
  unfold W7
  generalize W6 m ρ c = W at ha ⊢
  after_reads_at
  rw [ha]

/-- The patches as the first launch finds them. -/
theorem entry_v3 (b : Fin 64) (n : Fin 1024) (k : Fin 768) :
    V7 m ρ c main_v3 (ix3 b n k) = patch (m ((c : Thread nD τ).loc main_arg0)) b n k := by
  rw [← read_v3 m ρ c b n k]
  show W7 m ρ c (Proc.devRef .tc main_v3) _ = _
  rw [W7_of m ρ c main_v3 (by decide), W6_of m ρ c main_v3 (by decide), W5_of m ρ c main_v3 (by decide),
    W4_of m ρ c main_v3 (by decide), W3_of m ρ c main_v3 (by decide), W2_of m ρ c main_v3 (by decide)]

/-- The padded filters as the first launch finds them. -/
theorem entry_v7 (k : Fin 768) (l : Fin 128) :
    V7 m ρ c main_v7 (ix2 k l)
      = if h : l.val < 96 then filt (m ((c : Thread nD τ).loc main_arg1)) ⟨l.val, h⟩ k else (0 : EReal) := by
  rw [← read_v7 m ρ c k l]
  show W7 m ρ c (Proc.devRef .tc main_v7) _ = _
  rw [W7_of m ρ c main_v7 (by decide), W6_of m ρ c main_v7 (by decide), W5_of m ρ c main_v7 (by decide),
    W4_of m ρ c main_v7 (by decide), W3_of m ρ c main_v7 (by decide)]

/-- The padded first bias as the first launch finds it. -/
theorem entry_v9 (l : Fin 128) :
    V7 m ρ c main_v9 (ix2 0 l)
      = if h : l.val < 96 then (m ((c : Thread nD τ).loc main_arg2) (ix1 (⟨l.val, h⟩ : Fin 96)) : EReal) else (0 : EReal) := by
  rw [← read_v9 m ρ c l]
  show W7 m ρ c (Proc.devRef .tc main_v9) _ = _
  rw [W7_of m ρ c main_v9 (by decide), W6_of m ρ c main_v9 (by decide)]

/-- The padded lane weights as the first launch finds them. -/
theorem entry_v13 (l : Fin 128) :
    V7 m ρ c main_v13 (ix2 0 l)
      = if h : l.val < 96 then (m ((c : Thread nD τ).loc main_arg3) (ix4 0 (⟨l.val, h⟩ : Fin 96) 0 0) : EReal) else (0 : EReal) := by
  rw [← read_v13 m ρ c l]
  show W7 m ρ c (Proc.devRef .tc main_v13) _ = _
  rw [W7_of m ρ c main_v13 (by decide)]

/-- A sum over 128 lanes whose last 32 terms vanish is the sum over the first 96. -/
theorem sum_pad (f : Fin 128 → EReal) (h : ∀ l : Fin 128, 96 ≤ l.val → f l = 0) :
    ∑ l : Fin 128, f l = ∑ l : Fin 96, f (l.castLE (by norm_num)) := by
  refine (Fin.sum_univ_add (a := 96) (b := 32) f).trans ?_
  rw [Finset.sum_eq_zero (s := Finset.univ) (f := fun i : Fin 32 => f (Fin.natAdd 96 i)) (fun i _ => h _ (by simp)), add_zero]
  rfl

/-- The padded lanes add nothing to a lane total. -/
theorem laneTotal_of (x0 : Vec Ideal S64x3x512x512 .f32) (x1 : Vec Ideal S96x3x16x16 .f32) (x2 : Vec Ideal S96 .f32) (x3 : Vec Ideal S1x96x1x1 .f32)
    (X : Vec Ideal S64x1024x768 .bf16) (A : Vec Ideal S768x128 .bf16) (B w : Vec Ideal S1x128 .f32)
    (hX : ∀ (b : Fin 64) (n : Fin 1024) (k : Fin 768), X (ix3 b n k) = patch x0 b n k)
    (hA : ∀ (k : Fin 768) (l : Fin 128), A (ix2 k l) = if h : l.val < 96 then filt x1 ⟨l.val, h⟩ k else (0 : EReal))
    (hB : ∀ l : Fin 128, B (ix2 0 l) = if h : l.val < 96 then (x2 (ix1 ⟨l.val, h⟩) : EReal) else (0 : EReal))
    (hw : ∀ l : Fin 128, w (ix2 0 l) = if h : l.val < 96 then (x3 (ix4 0 ⟨l.val, h⟩ 0 0) : EReal) else (0 : EReal))
    (b : Fin 64) (n : Fin 1024) : laneTotal X A B w b n = lanes x0 x1 x2 x3 b n := by
  unfold laneTotal lanes lane
  rw [sum_pad]
  · refine Finset.sum_congr rfl fun l _ => ?_
    have hl : (l.castLE (by norm_num : 96 ≤ 128)).val < 96 := l.isLt
    rw [hB, hw, dif_pos hl, dif_pos hl]
    congr 2
    refine Finset.sum_congr rfl fun k _ => ?_
    rw [hX, hA, dif_pos hl]
    rfl
  · intro l hl
    have h : ¬ l.val < 96 := by omega
    rw [hw, dif_neg h, mul_zero]

/-- The kernel's lane total is the sum over the lanes. -/
theorem laneTotal_eq (b : Fin 64) (n : Fin 1024) :
    laneTotal (V7 m ρ c main_v3) (V7 m ρ c main_v7) (V7 m ρ c main_v9) (V7 m ρ c main_v13) b n
      = lanes (m ((c : Thread nD τ).loc main_arg0)) (m ((c : Thread nD τ).loc main_arg1)) (m ((c : Thread nD τ).loc main_arg2))
          (m ((c : Thread nD τ).loc main_arg3)) b n :=
  laneTotal_of _ _ _ _ _ _ _ _ (entry_v3 m ρ c) (entry_v7 m ρ c) (entry_v9 m ρ c) (entry_v13 m ρ c) b n

/-- The scores the second launch is given. -/
theorem scores_read (b : Fin 64) (n : Fin 1024) :
    V8 m ρ c main_v15 (ix3 b 0 n)
      = kerScore (m ((c : Thread nD τ).loc main_arg0)) (m ((c : Thread nD τ).loc main_arg1)) (m ((c : Thread nD τ).loc main_arg2))
          (m ((c : Thread nD τ).loc main_arg3)) (m ((c : Thread nD τ).loc main_arg4)) b n := by
  have h : V8 m ρ c main_v15 = (dat0 (V7 m ρ) c).arrAt 5 cfg0.N := W8_arr m ρ c 5
  rw [h, scores_arr]
  show kscore _ _ _ _ _ b n = _
  have hβ : V7 m ρ c main_v14 (ix2 0 0) = (m ((c : Thread nD τ).loc main_arg4) (ix1 0) : EReal) := read_v14 m ρ c
  unfold kscore kerScore
  rw [laneTotal_eq, hβ]

/-- The result at place `p` of image `b`: the second launch's row, of the kernel's scores. -/
theorem result_read (b : Fin 64) (p : Fin 513) :
    W10 m ρ c (Proc.devRef .tc main_v18) (ix2 b p)
      = k1_pay1 (kerRow (m ((c : Thread nD τ).loc main_arg0)) (m ((c : Thread nD τ).loc main_arg1))
          (m ((c : Thread nD τ).loc main_arg2)) (m ((c : Thread nD τ).loc main_arg3)) (m ((c : Thread nD τ).loc main_arg4)) b)
          (ix3 0 0 (p.castLE (by norm_num))) := by
  rw [read_v18]
  have h : W9 m ρ c (Proc.devRef .tc main_v16) = (dat1 (V8 m ρ) c).arrAt 1 cfg1.N := W9_arr m ρ c 1
  rw [h, places_arr]
  show k1_pay1 _ _ = _
  congr 1
  funext y
  exact scores_read m ρ c b (y 2)

end Cert.KernelIdeal.Rank
end
-- ==== Proof.RefScore.lean ====
module

public import proofs.«01_k».proof.Proof.HostK
public import proofs.«01_k».proof.Proof.Gen.ReferenceIdeal.Read

@[expose] public section

set_option maxRecDepth 16384

noncomputable section

namespace Cert.ReferenceIdeal.Score

open Cert.ReferenceIdeal Cert.ReferenceIdeal.Gen Cert.ReferenceIdeal.Read Cert.Lanes Cert.Order
open Idealize.ShloMosaic Idealize.ShloMosaic.TcCoe Idealize.SL.Sem

variable (x0 : Vec Ideal S64x3x512x512 .f32) (x1 : Vec Ideal S96x3x16x16 .f32) (x2 : Vec Ideal S96 .f32) (x3 : Vec Ideal S1x96x1x1 .f32) (x4 : Vec Ideal S1 .f32)

/-- The reference's contraction over channel, row and column of a patch. -/
abbrev dP := dot_S64x3x32x16x32x16_S96x3x16x16_S64x32x32x96_135_123_024_0_n_n

/-- Entry `k` of a patch as channel, row and column. -/
def split (k : Fin 768) : dP.contr.Idx := fun a => match a with
  | ⟨0, _⟩ => ⟨k.val / 256, by show k.val / 256 < 3; have := k.isLt; omega⟩
  | ⟨1, _⟩ => ⟨k.val / 16 % 16, by show k.val / 16 % 16 < 16; omega⟩
  | ⟨2, _⟩ => ⟨k.val % 16, by show k.val % 16 < 16; omega⟩

/-- Every channel, row and column is that of exactly one entry of a patch. -/
theorem split_bijective : Function.Bijective split := by
  constructor
  · intro k k' h
    have h0 : k.val / 256 = k'.val / 256 := congrArg Fin.val (congrFun h (⟨0, by decide⟩ : Fin 3))
    have h1 : k.val / 16 % 16 = k'.val / 16 % 16 := congrArg Fin.val (congrFun h (⟨1, by decide⟩ : Fin 3))
    have h2 : k.val % 16 = k'.val % 16 := congrArg Fin.val (congrFun h (⟨2, by decide⟩ : Fin 3))
    exact Fin.ext (by omega)
  · intro z
    have b0 : (z (⟨0, by decide⟩ : Fin 3)).val < 3 := (z (⟨0, by decide⟩ : Fin 3)).isLt
    have b1 : (z (⟨1, by decide⟩ : Fin 3)).val < 16 := (z (⟨1, by decide⟩ : Fin 3)).isLt
    have b2 : (z (⟨2, by decide⟩ : Fin 3)).val < 16 := (z (⟨2, by decide⟩ : Fin 3)).isLt
    refine ⟨⟨(z (⟨0, by decide⟩ : Fin 3)).val * 256 + (z (⟨1, by decide⟩ : Fin 3)).val * 16 + (z (⟨2, by decide⟩ : Fin 3)).val, by omega⟩, funext fun a => ?_⟩
    match a with
    | ⟨0, _⟩ => exact Fin.ext (by show ((z (⟨0, by decide⟩ : Fin 3)).val * 256 + (z (⟨1, by decide⟩ : Fin 3)).val * 16 + (z (⟨2, by decide⟩ : Fin 3)).val) / 256 = (z (⟨0, by decide⟩ : Fin 3)).val; omega)
    | ⟨1, _⟩ => exact Fin.ext (by show ((z (⟨0, by decide⟩ : Fin 3)).val * 256 + (z (⟨1, by decide⟩ : Fin 3)).val * 16 + (z (⟨2, by decide⟩ : Fin 3)).val) / 16 % 16 = (z (⟨1, by decide⟩ : Fin 3)).val; omega)
    | ⟨2, _⟩ => exact Fin.ext (by show ((z (⟨0, by decide⟩ : Fin 3)).val * 256 + (z (⟨1, by decide⟩ : Fin 3)).val * 16 + (z (⟨2, by decide⟩ : Fin 3)).val) % 16 = (z (⟨2, by decide⟩ : Fin 3)).val; omega)

/-- Where the contraction reads the tiled images for entry `k`. -/
theorem lhs_split (b : Fin 64) (i j : Fin 32) (d : Fin 96) (k : Fin 768) :
    dP.lhsIdx (ix4 b i j d) (split k) = ix6 b ⟨k.val / 256, by have := k.isLt; omega⟩ i ⟨k.val / 16 % 16, by omega⟩ j ⟨k.val % 16, by omega⟩ := by
  funext a
  match a with
  | ⟨0, _⟩ => rfl
  | ⟨1, _⟩ => rfl
  | ⟨2, _⟩ => rfl
  | ⟨3, _⟩ => rfl
  | ⟨4, _⟩ => rfl
  | ⟨5, _⟩ => rfl

/-- Where the contraction reads the filters for entry `k`. -/
theorem rhs_split (b : Fin 64) (i j : Fin 32) (d : Fin 96) (k : Fin 768) :
    dP.rhsIdx (ix4 b i j d) (split k) = ix4 d ⟨k.val / 256, by have := k.isLt; omega⟩ ⟨k.val / 16 % 16, by omega⟩ ⟨k.val % 16, by omega⟩ := by
  funext a
  match a with
  | ⟨0, _⟩ => rfl
  | ⟨1, _⟩ => rfl
  | ⟨2, _⟩ => rfl
  | ⟨3, _⟩ => rfl

/-- The reference's product of patch and filter, as a sum over the 768 entries of the patch. -/
theorem v1_read (b : Fin 64) (i j : Fin 32) (d : Fin 96) : val_main_v1 (F := Ideal) x0 x1 (ix4 b i j d)
   = ∑ k : Fin 768, (x0 (ix4 b ⟨k.val / 256, by have := k.isLt; omega⟩ ⟨i.val * 16 + k.val / 16 % 16, by have := i.isLt; omega⟩
    ⟨j.val * 16 + k.val % 16, by have := j.isLt; omega⟩) : EReal) * x1 (ix4 d ⟨k.val / 256, by have := k.isLt; omega⟩ ⟨k.val / 16 % 16, by omega⟩ ⟨k.val % 16, by omega⟩) := by
  have h : val_main_v1 (F := Ideal) x0 x1 (ix4 b i j d) = ∑ z : dP.contr.Idx, val_main_v0 (F := Ideal) x0 (dP.lhsIdx (ix4 b i j d) z) * x1 (dP.rhsIdx (ix4 b i j d) z) := by
    unfold val_main_v1
    simp only [Host.dotGeneral]
    exact zero_add _
  rw [h, ← split_bijective.sum_comp]
  refine Finset.sum_congr rfl fun k _ => ?_
  rw [lhs_split, rhs_split]
  congr 1
  unfold val_main_v0
  pointwise

/-- The score of patch `n` of image `b` in the reference: the sum over lanes plus the second bias. -/
theorem v10_read (b : Fin 64) (n : Fin 1024) : val_main_v10 (F := Ideal) x0 x1 x2 x3 x4 (ix2 b n)
    = Cert.KernelIdeal.Rank.lanes x0 x1 x2 x3 b n + x4 (ix1 0) := by
  have h (l : Fin 96) := v1_read x0 x1 b ⟨n.val / 32, by have := n.isLt; omega⟩ ⟨n.val % 32, by omega⟩ l
  unfold val_main_v10 val_main_v9 val_main_v8 val_main_v7 val_main_v6 val_main_v5 val_main_v4 val_main_v3 val_main_v2
  generalize val_main_v1 (F := Ideal) x0 x1 = y at h ⊢
  pointwise
  refine congrArg (· + x4 (ix1 0)) (Finset.sum_congr rfl fun l _ => ?_)
  exact congrArg (fun t : EReal => (t + x2 (ix1 l)) * x3 (ix4 0 l 0 0)) (h l)

/-- The pattern of minus infinity denotes the least extended real. -/
theorem ofBits_neg_inf : Ideal.ofBits FTy.f32 4286578688#32 = ⊥ := by
  simp [Ideal.ofBits, Ideal.ieee]

/-- The reference's softmax of a row of scores, as a function of that row. -/
def softmax (y : Fin 1024 → EReal) (n : Fin 1024) : EReal :=
  Ideal.div (Ideal.exp (y n - Finset.fold max ⊥ y Finset.univ)) (∑ x, Ideal.exp (y x - Finset.fold max ⊥ y Finset.univ))

/-- The reference's probabilities are the softmax of its scores, row by row. -/
theorem v21_read (b : Fin 64) (n : Fin 1024) : val_main_v21 (F := Ideal) x0 x1 x2 x3 x4 (ix2 b n)
    = softmax (fun x => val_main_v10 (F := Ideal) x0 x1 x2 x3 x4 (ix2 b x)) n := by
  unfold val_main_v21 val_main_v20 val_main_v19 val_main_v18 val_main_v17 val_main_v16 val_main_v15 val_main_v14 val_main_v13 val_main_v12 val_main_v11
  generalize val_main_v10 (F := Ideal) x0 x1 x2 x3 x4 = y
  pointwise
  have e0 (i) : (val_main_cst_0 (F := Ideal) i : EReal) = ⊥ := ofBits_neg_inf
  have e (i) : (val_main_cst (F := Ideal) i : EReal) = ⊥ := ofBits_neg_inf
  have e1 (i) : (val_main_cst_1 (F := Ideal) i : EReal) = 0 := Ideal.ofBits_zero_f32
  simp only [e0, e, e1, zero_add, bot_le, max_eq_right]
  rfl

/-- Replacing the second coordinate of an index of two axes. -/
theorem ix2_along (b : Fin 64) (p k : Fin 1024) : (ix2 b p : S64x1024.Idx).along (1 : Fin 2) k = ix2 b k := by
  funext a
  match a with
  | ⟨0, _⟩ => rfl
  | ⟨1, _⟩ => rfl

/-- The replaced coordinate of an index, as a word. -/
theorem along_read (i : S64x1024.Idx) {k k' : Fin 1024} (h : k = k') :
    BitVec.ofNat 32 ((i.along (1 : Fin 2) k) (1 : Fin 2)).val = BitVec.ofNat 32 k'.val := by
  subst h; rfl

/-- Sorting by two comparisons that agree gives the same order. -/
theorem sorted_congr {n : ℕ} {f g : Fin n → Fin n → Bool} (h : ∀ k k', f k k' = g k k') {p q : Fin n} (hpq : p = q) :
    sortedFrom f p = sortedFrom g q := by
  subst hpq; exact congrArg (fun f => sortedFrom f p) (funext fun k => funext fun k' => h k k')

/-- The comparison `greater than` on extended reals, as a truth value. -/
theorem gt_read (x x' y y' : Ideal FTy.f32) (hx : x = y) (hx' : x' = y') :
    (FloatOps.cmpfTotal (F := Ideal) CmpDirection.gt x x' == 1#1) = decide ((y' : EReal) < y) := by
  subst hx hx'
  rw [Ideal.cmpfTotal_def]
  show (BitVec.ofBool (decide ((x' : EReal) < x)) == 1#1) = decide ((x' : EReal) < x)
  cases decide ((x' : EReal) < x) <;> rfl

/-- The reference's chosen patch at place `p`: the patch its sort by falling probability puts there. -/
theorem idx_read (b : Fin 64) (p : Fin 512) :
    val_main_indices (F := Ideal) x0 x1 x2 x3 x4 (ix2 b p)
      = BitVec.ofNat 32 (sortedFrom (fun k k' : Fin 1024 => decide ((val_main_v21 (F := Ideal) x0 x1 x2 x3 x4 (ix2 b k') : EReal) < val_main_v21 (F := Ideal) x0 x1 x2 x3 x4 (ix2 b k)))
         (p.castLE (by norm_num))).val := by
  unfold val_main_indices
  generalize val_main_v21 (F := Ideal) x0 x1 x2 x3 x4 = y
  unfold Host.topK Host.sort2
  dsimp only
  pointwise
  exact along_read _ (sorted_congr (fun k k' => gt_read _ _ _ _ (congrArg y (ix2_along b _ k)) (congrArg y (ix2_along b _ k'))) rfl)

/-- The reference's result starts with zero. -/
theorem v25_zero (b : Fin 64) (p : Fin 513) (hp : p.val = 0) :
    val_main_v25 (F := Ideal) x0 x1 x2 x3 x4 (ix2 b p) = 0#32 := by
  unfold val_main_v25 val_main_v24 val_main_v23 val_main_v22 val_main_c
  generalize val_main_indices (F := Ideal) x0 x1 x2 x3 x4 = y
  pointwise
  rw [dif_pos (by omega)]
  rfl

/-- After it, the reference's result holds the chosen patches plus one. -/
theorem v25_succ (b : Fin 64) (p : Fin 513) (q : Fin 512) (hp : p.val = q.val + 1) :
    val_main_v25 (F := Ideal) x0 x1 x2 x3 x4 (ix2 b p) = val_main_indices (F := Ideal) x0 x1 x2 x3 x4 (ix2 b q) + 1#32 := by
  unfold val_main_v25 val_main_v24 val_main_v23 val_main_v22 val_main_c
  generalize val_main_indices (F := Ideal) x0 x1 x2 x3 x4 = y
  pointwise
  rw [dif_neg (by omega)]
  exact congrArg (fun t : Fin 512 => IntOp.addi (y (ix2 b t)) 1#32) (Fin.ext (by show p.val - 1 = q.val; omega))

end Cert.ReferenceIdeal.Score
end
-- ==== Proof.Compare.lean ====
module

public import proofs.«01_k».proof.Proof.RefScore

@[expose] public section

set_option maxRecDepth 16384

noncomputable section

namespace Cert.Compare

open Cert.ReferenceIdeal Cert.ReferenceIdeal.Gen Cert.ReferenceIdeal.Read Cert.ReferenceIdeal.Score Cert.Lanes Cert.Order
open Cert.KernelIdeal.Rank (patch filt lane lanes kerScore kerRow soft)
open Idealize.ShloMosaic Idealize.ShloMosaic.TcCoe Idealize.SL.Sem

variable (x0 : Vec Ideal S64x3x512x512 .f32) (x1 : Vec Ideal S96x3x16x16 .f32) (x2 : Vec Ideal S96 .f32) (x3 : Vec Ideal S1x96x1x1 .f32) (x4 : Vec Ideal S1 .f32)

/-- With real images, filters and lane weights, the sums over lanes of an image are all real, or all equal and not real. -/
theorem lanes_unif (h0 : ∀ i, Re (x0 i)) (h1 : ∀ i, Re (x1 i)) (h3 : ∀ i, Re (x3 i)) (b : Fin 64) :
    Unif fun n => lanes x0 x1 x2 x3 b n := by
  refine unif_sum _ _ fun l _ => ?_
  refine Unif.mul (Unif.add (Or.inl fun n => re_sum _ _ fun k _ => (h0 _).mul (h1 _)) (unif_const _)) (h3 _)

/-- The two programs' scores of an image's patches are the same reals, or each program's are all equal. -/
theorem scores_agree (h0 : ∀ i, Re (x0 i)) (h1 : ∀ i, Re (x1 i)) (h3 : ∀ i, Re (x3 i)) (b : Fin 64) :
    ((∀ n, kerScore x0 x1 x2 x3 x4 b n = lanes x0 x1 x2 x3 b n + x4 (ix1 0)) ∧ ∀ n, Re (lanes x0 x1 x2 x3 b n + x4 (ix1 0))) ∨
    ∃ k r, (∀ n, kerScore x0 x1 x2 x3 x4 b n = k) ∧ ∀ n, lanes x0 x1 x2 x3 b n + x4 (ix1 0) = r := by
  rcases lanes_unif x0 x1 x2 x3 h0 h1 h3 b with h | ⟨v, hv, h⟩
  · have hk (n) : kerScore x0 x1 x2 x3 x4 b n = lanes x0 x1 x2 x3 b n + x4 (ix1 0) := if_pos (h n)
    rcases Unif.add (Or.inl h) (unif_const (x4 (ix1 0))) with h' | ⟨r, -, h'⟩
    · exact Or.inl ⟨hk, h'⟩
    · exact Or.inr ⟨r, r, fun n => (hk n).trans (h' n), h'⟩
  · refine Or.inr ⟨⊥, v + x4 (ix1 0), fun n => if_neg ?_, fun n => ?_⟩
    · show ¬Re (lanes x0 x1 x2 x3 b n)
      rw [show lanes x0 x1 x2 x3 b n = v from h n]; exact hv
    · rw [show lanes x0 x1 x2 x3 b n = v from h n]

/-- The greatest of finitely many reals, and of minus infinity, is one of them. -/
theorem fold_max_real (y : Fin 1024 → EReal) (h : ∀ n, Re (y n)) : Re (Finset.fold max ⊥ y Finset.univ) := by
  have key : ∀ s : Finset (Fin 1024), Finset.fold max ⊥ y s = ⊥ ∨ Re (Finset.fold max ⊥ y s) := by
    intro s
    induction s using Finset.induction_on with
    | empty => exact Or.inl (Finset.fold_empty)
    | insert a s ha ih =>
      rw [Finset.fold_insert ha]
      rcases ih with e | e
      · rw [e, max_eq_left bot_le]; exact Or.inr (h a)
      · rcases max_choice (y a) (Finset.fold max ⊥ y s) with e' | e' <;> rw [e']
        · exact Or.inr (h a)
        · exact Or.inr e
  rcases key Finset.univ with e | e
  · have hle : y 0 ≤ Finset.fold max ⊥ y Finset.univ := (Finset.le_fold_max _).2 (Or.inr ⟨0, Finset.mem_univ _, le_refl _⟩)
    obtain ⟨r, hr⟩ := h 0
    rw [e, hr] at hle
    exact absurd hle (not_le.2 (EReal.bot_lt_coe r))
  · exact e

/-- The exponential, row by row, of the distance to the greatest score. -/
def expRow (y : Fin 1024 → EReal) (n : Fin 1024) : EReal := Ideal.exp (y n - Finset.fold max ⊥ y Finset.univ)

/-- On real scores the softmax orders the patches as its numerators do. -/
theorem softmax_order (y : Fin 1024 → EReal) (h : ∀ n, Re (y n)) (i j : Fin 1024) :
    expRow y i < expRow y j ↔ softmax y i < softmax y j := by
  obtain ⟨M, hM⟩ := fold_max_real y h
  have he (n) : ∃ e : ℝ, 0 < e ∧ expRow y n = (e : EReal) := by
    obtain ⟨r, hr⟩ := h n
    refine ⟨Real.exp (r - M), Real.exp_pos _, ?_⟩
    unfold expRow
    rw [hM, hr, ← EReal.coe_sub, Ideal.exp_coe]
  choose e e0 ee using he
  have hs : ∀ s : Finset (Fin 1024), ∑ x ∈ s, expRow y x = ((∑ x ∈ s, e x : ℝ) : EReal) := by
    intro s
    induction s using Finset.induction_on with
    | empty => rfl
    | insert a s ha ih => rw [Finset.sum_insert ha, Finset.sum_insert ha, ih, ee, EReal.coe_add]
  have hd : 0 < ∑ x, e x := Finset.sum_pos (fun x _ => e0 x) ⟨0, Finset.mem_univ _⟩
  have hq (n) : softmax y n = ((e n * (1 / ∑ x, e x) : ℝ) : EReal) := by
    show Ideal.div (expRow y n) (∑ x, expRow y x) = _
    rw [hs, ee, Ideal.div_coe hd.ne', EReal.coe_mul]
  rw [hq, hq, ee, ee, EReal.coe_lt_coe_iff, EReal.coe_lt_coe_iff]
  exact (mul_lt_mul_iff_left₀ (one_div_pos.2 hd)).symm

/-- The kernel's numerators of an image are `expRow` of its scores. -/
theorem soft_kerRow (b : Fin 64) (n : Fin 1024) :
    soft (kerRow x0 x1 x2 x3 x4 b) n = expRow (kerScore x0 x1 x2 x3 x4 b) n := by
  unfold soft expRow
  rw [ofBits_neg_inf]
  rfl

/-- Both programs give each patch the same rank in its image. -/
theorem ranks_agree (h0 : ∀ i, Re (x0 i)) (h1 : ∀ i, Re (x1 i)) (h3 : ∀ i, Re (x3 i)) (b : Fin 64) (n : Fin 1024) :
    rank (soft (kerRow x0 x1 x2 x3 x4 b)) n = rank (fun x => (val_main_v21 (F := Ideal) x0 x1 x2 x3 x4 (ix2 b x) : EReal)) n := by
  have hg : (fun x => (val_main_v21 (F := Ideal) x0 x1 x2 x3 x4 (ix2 b x) : EReal))
      = softmax (fun x => lanes x0 x1 x2 x3 b x + x4 (ix1 0)) := by
    funext x
    rw [v21_read]
    exact congrArg (fun y => softmax y x) (funext fun z => v10_read x0 x1 x2 x3 x4 b z)
  have hf : soft (kerRow x0 x1 x2 x3 x4 b) = expRow (kerScore x0 x1 x2 x3 x4 b) := funext (soft_kerRow x0 x1 x2 x3 x4 b)
  rw [hg, hf]
  refine rank_congr (fun i j => ?_) n
  rcases scores_agree x0 x1 x2 x3 x4 h0 h1 h3 b with ⟨hk, hr⟩ | ⟨k, r, hk, hr⟩
  · rw [show kerScore x0 x1 x2 x3 x4 b = fun x => lanes x0 x1 x2 x3 b x + x4 (ix1 0) from funext hk]
    exact softmax_order _ hr i j
  · rw [show kerScore x0 x1 x2 x3 x4 b = fun _ => k from funext hk,
      show (fun x => lanes x0 x1 x2 x3 b x + x4 (ix1 0)) = fun _ => r from funext hr]
    exact iff_of_false (lt_irrefl _) (lt_irrefl _)

/-- Entry by entry the kernel's row of places is the reference's result. -/
theorem places_agree (h0 : ∀ i, Re (x0 i)) (h1 : ∀ i, Re (x1 i)) (h3 : ∀ i, Re (x3 i)) (b : Fin 64) (p : Fin 513) :
    Cert.KernelIdeal.Gen.k1_pay1 (F := Ideal) (kerRow x0 x1 x2 x3 x4 b) (ix3 0 0 (p.castLE (by norm_num)))
      = val_main_v25 (F := Ideal) x0 x1 x2 x3 x4 (ix2 b p) := by
  rcases Nat.eq_zero_or_pos p.val with hp | hp
  · rw [v25_zero x0 x1 x2 x3 x4 b p hp]
    exact Cert.KernelIdeal.Rank.k1_zero _ _ hp
  · have hq : p.val = (⟨p.val - 1, by have := p.isLt; omega⟩ : Fin 512).val + 1 := by show p.val = p.val - 1 + 1; omega
    rw [v25_succ x0 x1 x2 x3 x4 b p _ hq, idx_read]
    have hi := ranks_agree x0 x1 x2 x3 x4 h0 h1 h3 b (sortedFrom (fun k k' : Fin 1024 =>
      decide ((val_main_v21 (F := Ideal) x0 x1 x2 x3 x4 (ix2 b k') : EReal) < val_main_v21 (F := Ideal) x0 x1 x2 x3 x4 (ix2 b k)))
      ((⟨p.val - 1, by have := p.isLt; omega⟩ : Fin 512).castLE (by norm_num)))
    rw [rank_sortedFrom (fun x => (val_main_v21 (F := Ideal) x0 x1 x2 x3 x4 (ix2 b x) : EReal))] at hi
    refine (Cert.KernelIdeal.Rank.k1_place (kerRow x0 x1 x2 x3 x4 b) (p.castLE (by norm_num)) _ ((congrArg (· + 1) hi).trans hq.symm)).trans ?_
    exact BitVec.ofNat_add _ _

end Cert.Compare
end
-- ==== Proof.Finite.lean ====
module

public import proofs.«01_k».proof.Proof.Lanes
public import proofs.«01_k».proof.Proof.Gen.Pre_finite
public import Idealize.ShloMosaic.Lib.ReduceAll

@[expose] public section

set_option maxRecDepth 16384

noncomputable section

namespace Cert.Pre_finite.Gen

open Cert.Pre_finite Cert.Lanes
open Idealize.ShloMosaic

/-- The pattern of plus infinity denotes the greatest extended real. -/
theorem ofBits_inf : Ideal.ofBits FTy.f32 0x7F800000#32 = ⊤ := by
  simp [Ideal.ofBits, Ideal.ieee]

/-- An extended real whose absolute value is below plus infinity is a real. -/
theorem re_of_abs_lt (a : EReal) (h : max a (-a) < ⊤) : Re a := by
  induction a using EReal.rec with
  | bot => exact absurd h (by simp)
  | coe r => exact ⟨r, rfl⟩
  | top => exact absurd h (by simp)

/-- An entry that passes the test `|a| < inf` is a real. -/
theorem re_of_test (a t : Ideal FTy.f32) (ht : t = Ideal.ofBits FTy.f32 0x7F800000#32)
    (h : FloatOps.cmpf (F := Ideal) CmpFPredicate.olt (FloatOps.hostAbsf a) t = 1#1) : Re a := by
  rw [ht, ofBits_inf] at h
  refine re_of_abs_lt a ?_
  have h' : BitVec.ofBool (decide (max (a : EReal) (-a) < ⊤)) = 1#1 := h
  by_contra hn
  rw [decide_eq_false hn] at h'
  exact absurd h' (by decide)

/-- Under the precondition the images, the filters and the lane weights are real. -/
theorem reals (x0 : FVec Ideal S64x3x512x512 .f32) (x1 : FVec Ideal S96x3x16x16 .f32) (x2 : FVec Ideal S96 .f32)
    (x3 : FVec Ideal S1x96x1x1 .f32) (x4 : FVec Ideal S1 .f32) (j : S_.Idx) (h : fn (F := Ideal) x0 x1 x2 x3 x4 j = 1#1) :
    (∀ i, Re (x0 i)) ∧ (∀ i, Re (x1 i)) ∧ ∀ i, Re (x3 i) := by
  haveI : Subsingleton S_.Idx := ⟨fun a b => funext fun i => i.elim0⟩
  obtain ⟨h', h3⟩ := IntOp.andi_eq_one.1 (show IntOp.andi _ _ = 1#1 from h)
  obtain ⟨h0, h1⟩ := IntOp.andi_eq_one.1 (show IntOp.andi _ _ = 1#1 from h')
  exact ⟨fun i => re_of_test _ _ rfl (Host.reduce_andi_all _ _ _ _ _ h0 i),
    fun i => re_of_test _ _ rfl (Host.reduce_andi_all _ _ _ _ _ h1 i),
    fun i => re_of_test _ _ rfl (Host.reduce_andi_all _ _ _ _ _ h3 i)⟩

end Cert.Pre_finite.Gen
end
-- ==== Proof.Equal.lean ====
module

public import proofs.«01_k».proof.Proof.Run
public import proofs.«01_k».proof.Proof.Compare
public import proofs.«01_k».proof.Proof.Finite
public import proofs.«01_k».proof.Proof.Gen.ReferenceIdeal.Run

@[expose] public section

set_option maxRecDepth 16384

noncomputable section

namespace Cert.Equal

open Idealize.ShloMosaic Idealize.ShloMosaic.TcCoe Idealize.SL.Sem

/-- Under the precondition, the kernel's result array is the reference's result for the same arguments. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (j : Cert.Pre_finite.S_.Idx)
    (h : Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) j = 1#1) :
    Cert.KernelIdeal.Gen.W10 m ρ c (Proc.devRef .tc Cert.KernelIdeal.main_v18)
      = Cert.ReferenceIdeal.Read.val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  obtain ⟨h0, h1, h3⟩ := Cert.Pre_finite.Gen.reals _ _ _ _ _ j h
  refine funext fun (i : Cert.ReferenceIdeal.S64x513.Idx) => ?_
  have hi : i = ix2 (i 0 : Fin 64) (i 1 : Fin 513) := by
    funext a
    match a with
    | ⟨0, _⟩ => rfl
    | ⟨1, _⟩ => rfl
  rw [hi]
  exact (Cert.KernelIdeal.Rank.result_read m ρ c (i 0) (i 1)).trans
    (Cert.Compare.places_agree _ _ _ _ _ h0 h1 h3 (i 0) (i 1))

/-- Every execution of the reference ends with its arguments as launched and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, sem_eq_zero_of_no_sems rfl r.2⟩) (Cert.ReferenceIdeal.Value.run m g)

end Cert.Equal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  fun m g _ => Cert.Equal.reference_frame m g,
  fun m g _ => Cert.Equal.reference_frame m g,
  trivial,
  by
    intro m g m' g' hpre hargs
    refine ⟨fun c => Cert.KernelIdeal.Gen.W10 m g c (Proc.devRef .tc Cert.KernelIdeal.main_v18), ?_, ?_⟩
    · refine (θ_run _ _ _).mono (fun r h c => ?_) (Cert.KernelIdeal.Rank.run m g)
      obtain ⟨h0, h1, h2, h3, h4, hr⟩ := h c
      exact ⟨hr, h0, h1, h2, h3, h4⟩
    · refine (θ_run _ _ _).mono (fun r h c => ⟨?_, (h c).2⟩) (Cert.ReferenceIdeal.Value.run m' g')
      obtain ⟨e0, e1, e2, e3, e4⟩ := hargs c
      rw [(h c).1, Cert.ReferenceIdeal.Read.val_main_v25_eq, e0, e1, e2, e3, e4]
      exact (Cert.Equal.result_eq m g c (fun a => a.elim0) (congrFun (hpre c) _)).symm⟩

end Cert.Proof

end
